-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "inv_seq" .f32 0x3BA3D70A#32 ((200⁻¹ : ℝ) : EReal)

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x200 : Shape := ⟨2, ![4096, 200]⟩
abbrev S1000000x64 : Shape := ⟨2, ![1000000, 64]⟩
abbrev S64x512 : Shape := ⟨2, ![64, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S4096x200 : S_.BroadcastsInDim S4096x200 (![] : Fin 0 → Fin S4096x200.rank)
  reducesTo_S4096x200_S_d0_1 : S4096x200.ReducesTo [0, 1] S_
  h_S_ : 0 < S_.numel

variable [Facts]

def fn {F : FTy → Type} [FloatOps F] (main_arg0 : IVec S4096x200 32) (main_arg1 : FVec F S1000000x64 .f32) (main_arg2 : FVec F S64x512 .f32) (main_arg3 : FVec F S512 .f32) (main_arg4 : FVec F S512x128 .f32) (main_arg5 : FVec F S128 .f32) : IVec S_ 1 :=
  let main_c : IVec S_ 32 := constantI S_ 32 0#32
  let main_v0 : IVec S4096x200 32 := broadcastInDim S4096x200 ![] bcast_S_S4096x200 main_c
  let main_v1 : IVec S4096x200 1 := cmpi .sge main_arg0 main_v0
  let main_c_0 : IVec S_ 32 := constantI S_ 32 1000000#32
  let main_v2 : IVec S4096x200 32 := broadcastInDim S4096x200 ![] bcast_S_S4096x200 main_c_0
  let main_v3 : IVec S4096x200 1 := cmpi .slt main_arg0 main_v2
  let main_v4 : IVec S4096x200 1 := andi main_v1 main_v3
  let main_c_1 : IVec S_ 1 := constantI S_ 1 1#1
  let main_v5 : IVec S_ 1 := (fun x v => Host.reduce IntOp.andi x v reducesTo_S4096x200_S_d0_1 h_S_) main_v4 main_c_1
  main_v5
-- ==== Kernel.lean ====
abbrev S4096x200 : Shape := ⟨2, ![4096, 200]⟩
abbrev S1000000x64 : Shape := ⟨2, ![1000000, 64]⟩
abbrev S64x512 : Shape := ⟨2, ![64, 512]⟩
abbrev S512 : Shape := ⟨1, ![512]⟩
abbrev S512x128 : Shape := ⟨2, ![512, 128]⟩
abbrev S128 : Shape := ⟨1, ![128]⟩
abbrev S500000x128 : Shape := ⟨2, ![500000, 128]⟩
abbrev S_ : Shape := ⟨0, ![]⟩
abbrev S4096x256 : Shape := ⟨2, ![4096, 256]⟩
abbrev S4096x128 : Shape := ⟨2, ![4096, 128]⟩
abbrev S128x256 : Shape := ⟨2, ![128, 256]⟩
abbrev S256 : Shape := ⟨1, ![256]⟩
abbrev S112x128 : Shape := ⟨2, ![112, 128]⟩
abbrev S88x128 : Shape := ⟨2, ![88, 128]⟩
abbrev S128x128 : Shape := ⟨2, ![128, 128]⟩
abbrev S16 : Shape := ⟨1, ![16]⟩
abbrev S1x16 : Shape := ⟨2, ![1, 16]⟩
abbrev S112 : Shape := ⟨1, ![112]⟩
abbrev S88 : Shape := ⟨1, ![88]⟩
abbrev S1 : Shape := ⟨1, ![1]⟩
abbrev S128x512 : Shape := ⟨2, ![128, 512]⟩
abbrev S1x512 : Shape := ⟨2, ![1, 512]⟩
abbrev S1x128 : Shape := ⟨2, ![1, 128]⟩
abbrev S512x512 : Shape := ⟨2, ![512, 512]⟩

abbrev nBuf : Table → Nat
  | .hbm => 17
  | .local .tc .vmem => 8
  | .local .scVector .vmem => 8
  | _ => 0

abbrev bufTy : (tb : Table) → Fin (nBuf tb) → BufTy
  | .hbm, ⟨0, _⟩ => ⟨S4096x200, .i32⟩
  | .hbm, ⟨1, _⟩ => ⟨S1000000x64, .f32⟩
  | .hbm, ⟨2, _⟩ => ⟨S64x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S500000x128, .f32⟩
  | .hbm, ⟨7, _⟩ => ⟨S_, .i32⟩
  | .hbm, ⟨8, _⟩ => ⟨S_, .i32⟩
  | .hbm, ⟨9, _⟩ => ⟨S4096x256, .i32⟩
  | .hbm, ⟨10, _⟩ => ⟨S4096x128, .f32⟩
  | .hbm, ⟨11, _⟩ => ⟨S_, .f32⟩
  | .hbm, ⟨12, _⟩ => ⟨S64x512, .f32⟩
  | .hbm, ⟨13, _⟩ => ⟨S128x512, .f32⟩
  | .hbm, ⟨14, _⟩ => ⟨S1x512, .f32⟩
  | .hbm, ⟨15, _⟩ => ⟨S1x128, .f32⟩
  | .hbm, ⟨16, _⟩ => ⟨S4096x128, .f32⟩
  | .local .tc .vmem, ⟨0, _⟩ => ⟨S512x128, .f32⟩
  | .local .tc .vmem, ⟨1, _⟩ => ⟨S512x128, .f32⟩
  | .local .tc .vmem, ⟨2, _⟩ => ⟨S128x512, .f32⟩
  | .local .tc .vmem, ⟨3, _⟩ => ⟨S1x512, .f32⟩
  | .local .tc .vmem, ⟨4, _⟩ => ⟨S512x128, .f32⟩
  | .local .tc .vmem, ⟨5, _⟩ => ⟨S1x128, .f32⟩
  | .local .tc .vmem, ⟨6, _⟩ => ⟨S512x128, .f32⟩
  | .local .tc .vmem, ⟨7, _⟩ => ⟨S512x128, .f32⟩
  | .local .scVector .vmem, ⟨0, _⟩ => ⟨S128x256, .i32⟩
  | .local .scVector .vmem, ⟨1, _⟩ => ⟨S256, .i32⟩
  | .local .scVector .vmem, ⟨2, _⟩ => ⟨S256, .i32⟩
  | .local .scVector .vmem, ⟨3, _⟩ => ⟨S112x128, .f32⟩
  | .local .scVector .vmem, ⟨4, _⟩ => ⟨S112x128, .f32⟩
  | .local .scVector .vmem, ⟨5, _⟩ => ⟨S88x128, .f32⟩
  | .local .scVector .vmem, ⟨6, _⟩ => ⟨S88x128, .f32⟩
  | .local .scVector .vmem, ⟨7, _⟩ => ⟨S128x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v1_scv : Ref sig .scVector := ⟨.hbm, 9, rfl⟩
abbrev main_v0_scv : Ref sig .scVector := ⟨.hbm, 6, rfl⟩
abbrev main_v2_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem5_1 : DmaSem sig := 13
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_16_r0 : BitVec 32 := 0#32
  ![v2.toNat, 0]
@[reducible] def k0_t1_loop : Scf.Loop 32 :=
  let c0_i32_0 : BitVec 32 := 0#32
  let c128_i32_1 : BitVec 32 := 128#32
  let v4 : BitVec 32 := Scalar.addi c0_i32_0 c128_i32_1
  let c1_i32 : BitVec 32 := 1#32
  ⟨c0_i32_0, v4, c1_i32⟩
def k0_off2 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v14 : Index := Scalar.indexCast arg17
  let c64 : Index := 64#32
  ![v14.toNat, 64]
def k0_off3 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v18 : Index := Scalar.indexCast arg17
  let c80 : Index := 80#32
  ![v18.toNat, 80]
def k0_off4 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v22 : Index := Scalar.indexCast arg17
  let c96 : Index := 96#32
  ![v22.toNat, 96]
def k0_off5 (k0_t1 : Fin k0_t1_loop.trips) : Fin 2 → Nat :=
  let c0_i32_0 : BitVec 32 := 0#32
  let c1_i32 : BitVec 32 := 1#32
  let arg17 : BitVec 32 := Scf.iv c0_i32_0 c1_i32 k0_t1
  let v26 : Index := Scalar.indexCast arg17
  let c112 : Index := 112#32
  ![v26.toNat, 112]
@[reducible] def k0_t2_loop : Scf.Loop 32 :=
  let c0_i32_4 : BitVec 32 := 0#32
  let c13_i32 : BitVec 32 := 13#32
  let v6 : BitVec 32 := Scalar.addi c0_i32_4 c13_i32
  let c1_i32_5 : BitVec 32 := 1#32
  ⟨c0_i32_4, v6, c1_i32_5⟩
def k0_off6 (k0_t2 : Fin k0_t2_loop.trips) : Fin 2 → Nat :=
  let c0_i32_16 : BitVec 32 := 0#32
  let v15 : Index := Scalar.indexCast c0_i32_16
  let c16_i32 : BitVec 32 := 16#32
  let c0_i32_4 : BitVec 32 := 0#32
  let c1_i32_5 : BitVec 32 := 1#32
  let arg17 : BitVec 32 := Scf.iv c0_i32_4 c1_i32_5 k0_t2
  let v14 : BitVec 32 := Scalar.muli c16_i32 arg17
  let v16 : Index := Scalar.indexCast v14
  ![0, v16.toNat]
def k0_off7 (k0_t2 : Fin k0_t2_loop.trips) : Fin 1 → Nat :=
  let c16_i32_18 : BitVec 32 := 16#32
  let c0_i32_4 : BitVec 32 := 0#32
  let c1_i32_5 : BitVec 32 := 1#32
  let arg17 : BitVec 32 := Scf.iv c0_i32_4 c1_i32_5 k0_t2
  let v21 : BitVec 32 := Scalar.muli c16_i32_18 arg17
  let v22 : Index := Scalar.indexCast v21
  ![v22.toNat]
@[reducible] def k0_t3_loop : Scf.Loop 32 :=
  let c0_i32_13 : BitVec 32 := 0#32
  let c64_i32 : BitVec 32 := 64#32
  let v12 : BitVec 32 := Scalar.addi c0_i32_13 c64_i32
  let c1_i32_14 : BitVec 32 := 1#32
  ⟨c0_i32_13, v12, c1_i32_14⟩
@[reducible] def k0_t4_loop : Scf.Loop 32 :=
  let c0_i32_19 : BitVec 32 := 0#32
  let c13_i32_20 : BitVec 32 := 13#32
  let v16 : BitVec 32 := Scalar.addi c0_i32_19 c13_i32_20
  let c1_i32_21 : BitVec 32 := 1#32
  ⟨c0_i32_19, v16, c1_i32_21⟩
def k0_off8 (k0_t3 : Fin k0_t3_loop.trips) (k0_t4 : Fin k0_t4_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_17 : BitVec 32 := 1#32
  let v15 : BitVec 32 := Scalar.addi v14 c1_i32_17
  let v646 : Index := Scalar.indexCast v15
  let c16_i32 : BitVec 32 := 16#32
  let c0_i32_19 : BitVec 32 := 0#32
  let c1_i32_21 : BitVec 32 := 1#32
  let arg19 : BitVec 32 := Scf.iv c0_i32_19 c1_i32_21 k0_t4
  let v645 : BitVec 32 := Scalar.muli c16_i32 arg19
  let v647 : Index := Scalar.indexCast v645
  ![v646.toNat, v647.toNat]
def k0_off9 (k0_t4 : Fin k0_t4_loop.trips) : Fin 1 → Nat :=
  let c16_i32_328 : BitVec 32 := 16#32
  let c0_i32_19 : BitVec 32 := 0#32
  let c1_i32_21 : BitVec 32 := 1#32
  let arg19 : BitVec 32 := Scf.iv c0_i32_19 c1_i32_21 k0_t4
  let v652 : BitVec 32 := Scalar.muli c16_i32_328 arg19
  let v653 : Index := Scalar.indexCast v652
  ![v653.toNat]
@[reducible] def k0_t5_loop : Scf.Loop 32 :=
  let c0_i32_32 : BitVec 32 := 0#32
  let c7_i32 : BitVec 32 := 7#32
  let v24 : BitVec 32 := Scalar.addi c0_i32_32 c7_i32
  let c1_i32_33 : BitVec 32 := 1#32
  ⟨c0_i32_32, v24, c1_i32_33⟩
def k0_off10 (k0_t3 : Fin k0_t3_loop.trips) (k0_t5 : Fin k0_t5_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let v647 : Index := Scalar.indexCast v14
  let c0_i32_327 : BitVec 32 := 0#32
  let c16_i32 : BitVec 32 := 16#32
  let c0_i32_32 : BitVec 32 := 0#32
  let c1_i32_33 : BitVec 32 := 1#32
  let arg19 : BitVec 32 := Scf.iv c0_i32_32 c1_i32_33 k0_t5
  let v645 : BitVec 32 := Scalar.muli c16_i32 arg19
  let v646 : BitVec 32 := Scalar.addi c0_i32_327 v645
  let v648 : Index := Scalar.indexCast v646
  ![v647.toNat, v648.toNat]
def k0_off11 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v658 : Index := Scalar.indexCast v654
  let c0_332 : Index := 0#32
  ![v658.toNat, 0]
def k0_off12 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v661 : Index := Scalar.indexCast v654
  let c64_333 : Index := 64#32
  ![v661.toNat, 64]
def k0_off13 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v666 : Index := Scalar.indexCast v654
  let c16_334 : Index := 16#32
  ![v666.toNat, 16]
def k0_off14 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v669 : Index := Scalar.indexCast v654
  let c80_335 : Index := 80#32
  ![v669.toNat, 80]
def k0_off15 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v674 : Index := Scalar.indexCast v654
  let c32_336 : Index := 32#32
  ![v674.toNat, 32]
def k0_off16 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v677 : Index := Scalar.indexCast v654
  let c96_337 : Index := 96#32
  ![v677.toNat, 96]
def k0_off17 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v682 : Index := Scalar.indexCast v654
  let c48_338 : Index := 48#32
  ![v682.toNat, 48]
def k0_off18 (k0_t5 : Fin k0_t5_loop.trips) (c0_i32_330 : BitVec 32) : Fin 2 → Nat :=
  let c16_i32_329 : BitVec 32 := 16#32
  let c0_i32_32 : BitVec 32 := 0#32
  let c1_i32_33 : BitVec 32 := 1#32
  let arg19 : BitVec 32 := Scf.iv c0_i32_32 c1_i32_33 k0_t5
  let v653 : BitVec 32 := Scalar.muli c16_i32_329 arg19
  let v654 : BitVec 32 := Scalar.addi v653 c0_i32_330
  let v685 : Index := Scalar.indexCast v654
  let c112_339 : Index := 112#32
  ![v685.toNat, 112]
@[reducible] def k0_t6_loop : Scf.Loop 32 :=
  let c0_i32_38 : BitVec 32 := 0#32
  let c5_i32 : BitVec 32 := 5#32
  let v28 : BitVec 32 := Scalar.addi c0_i32_38 c5_i32
  let c1_i32_39 : BitVec 32 := 1#32
  ⟨c0_i32_38, v28, c1_i32_39⟩
def k0_off19 (k0_t3 : Fin k0_t3_loop.trips) (k0_t6 : Fin k0_t6_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let v647 : Index := Scalar.indexCast v14
  let c112_i32_327 : BitVec 32 := 112#32
  let c16_i32 : BitVec 32 := 16#32
  let c0_i32_38 : BitVec 32 := 0#32
  let c1_i32_39 : BitVec 32 := 1#32
  let arg19 : BitVec 32 := Scf.iv c0_i32_38 c1_i32_39 k0_t6
  let v645 : BitVec 32 := Scalar.muli c16_i32 arg19
  let v646 : BitVec 32 := Scalar.addi c112_i32_327 v645
  let v648 : Index := Scalar.indexCast v646
  ![v647.toNat, v648.toNat]
def k0_off20 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v658 : Index := Scalar.indexCast v654
  let c0_332 : Index := 0#32
  ![v658.toNat, 0]
def k0_off21 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v661 : Index := Scalar.indexCast v654
  let c64_333 : Index := 64#32
  ![v661.toNat, 64]
def k0_off22 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v666 : Index := Scalar.indexCast v654
  let c16_334 : Index := 16#32
  ![v666.toNat, 16]
def k0_off23 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v669 : Index := Scalar.indexCast v654
  let c80_335 : Index := 80#32
  ![v669.toNat, 80]
def k0_off24 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v674 : Index := Scalar.indexCast v654
  let c32_336 : Index := 32#32
  ![v674.toNat, 32]
def k0_off25 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v677 : Index := Scalar.indexCast v654
  let c96_337 : Index := 96#32
  ![v677.toNat, 96]
def k0_off26 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v682 : Index := Scalar.indexCast v654
  let c48_338 : Index := 48#32
  ![v682.toNat, 48]
def k0_off27 (k0_t6 : Fin k0_t6_loop.trips) (c0_i32_330 : BitVec 32) : Fin 2 → Nat :=
  let c16_i32_329 : BitVec 32 := 16#32
  let c0_i32_38 : BitVec 32 := 0#32
  let c1_i32_39 : BitVec 32 := 1#32
  let arg19 : BitVec 32 := Scf.iv c0_i32_38 c1_i32_39 k0_t6
  let v653 : BitVec 32 := Scalar.muli c16_i32_329 arg19
  let v654 : BitVec 32 := Scalar.addi v653 c0_i32_330
  let v685 : Index := Scalar.indexCast v654
  let c112_339 : Index := 112#32
  ![v685.toNat, 112]
def k0_off28 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let v30 : Index := Scalar.indexCast v14
  let c192 : Index := 192#32
  ![v30.toNat, 192]
def k0_off29 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let v315 : Index := Scalar.indexCast v14
  let c0_162 : Index := 0#32
  ![v315.toNat, 0]
def k0_off30 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let v319 : Index := Scalar.indexCast v14
  let c16_163 : Index := 16#32
  ![v319.toNat, 16]
def k0_off31 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let v323 : Index := Scalar.indexCast v14
  let c32_164 : Index := 32#32
  ![v323.toNat, 32]
def k0_off32 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let v327 : Index := Scalar.indexCast v14
  let c48_165 : Index := 48#32
  ![v327.toNat, 48]
def k0_cond1 (k0_t3 : Fin k0_t3_loop.trips) : BitVec 1 :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c2_i32_167 : BitVec 32 := 2#32
  let v332 : BitVec 32 := Scalar.addi v14 c2_i32_167
  let c128_i32_168 : BitVec 32 := 128#32
  let v333 : BitVec 1 := Scalar.cmpi .slt v332 c128_i32_168
  let v334 : BitVec 32 := Scalar.extui v333
  let c0_i32_169 : BitVec 32 := 0#32
  let v335 : BitVec 1 := Scalar.cmpi .ne v334 c0_i32_169
  v335

@[reducible] def k0_t7_loop : Scf.Loop 32 :=
  let c0_i32_329 : BitVec 32 := 0#32
  let c13_i32_330 : BitVec 32 := 13#32
  let v646 : BitVec 32 := Scalar.addi c0_i32_329 c13_i32_330
  let c1_i32_331 : BitVec 32 := 1#32
  ⟨c0_i32_329, v646, c1_i32_331⟩
def k0_off33 (k0_t3 : Fin k0_t3_loop.trips) (k0_t7 : Fin k0_t7_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let c1_i32_327 : BitVec 32 := 1#32
  let v645 : BitVec 32 := Scalar.addi v331 c1_i32_327
  let v653 : Index := Scalar.indexCast v645
  let c16_i32 : BitVec 32 := 16#32
  let c0_i32_329 : BitVec 32 := 0#32
  let c1_i32_331 : BitVec 32 := 1#32
  let arg19 : BitVec 32 := Scf.iv c0_i32_329 c1_i32_331 k0_t7
  let v652 : BitVec 32 := Scalar.muli c16_i32 arg19
  let v654 : Index := Scalar.indexCast v652
  ![v653.toNat, v654.toNat]
def k0_off34 (k0_t7 : Fin k0_t7_loop.trips) : Fin 1 → Nat :=
  let c16_i32_340 : BitVec 32 := 16#32
  let c0_i32_329 : BitVec 32 := 0#32
  let c1_i32_331 : BitVec 32 := 1#32
  let arg19 : BitVec 32 := Scf.iv c0_i32_329 c1_i32_331 k0_t7
  let v659 : BitVec 32 := Scalar.muli c16_i32_340 arg19
  let v660 : Index := Scalar.indexCast v659
  ![v660.toNat]
@[reducible] def k0_t8_loop : Scf.Loop 32 :=
  let c0_i32_173 : BitVec 32 := 0#32
  let c7_i32_174 : BitVec 32 := 7#32
  let v338 : BitVec 32 := Scalar.addi c0_i32_173 c7_i32_174
  let c1_i32_175 : BitVec 32 := 1#32
  ⟨c0_i32_173, v338, c1_i32_175⟩
def k0_off35 (k0_t3 : Fin k0_t3_loop.trips) (k0_t8 : Fin k0_t8_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let v647 : Index := Scalar.indexCast v331
  let c0_i32_327 : BitVec 32 := 0#32
  let c16_i32 : BitVec 32 := 16#32
  let c0_i32_173 : BitVec 32 := 0#32
  let c1_i32_175 : BitVec 32 := 1#32
  let arg19 : BitVec 32 := Scf.iv c0_i32_173 c1_i32_175 k0_t8
  let v645 : BitVec 32 := Scalar.muli c16_i32 arg19
  let v646 : BitVec 32 := Scalar.addi c0_i32_327 v645
  let v648 : Index := Scalar.indexCast v646
  ![v647.toNat, v648.toNat]
def k0_off36 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v658 : Index := Scalar.indexCast v654
  let c0_332 : Index := 0#32
  ![v658.toNat, 0]
def k0_off37 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v661 : Index := Scalar.indexCast v654
  let c64_333 : Index := 64#32
  ![v661.toNat, 64]
def k0_off38 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v666 : Index := Scalar.indexCast v654
  let c16_334 : Index := 16#32
  ![v666.toNat, 16]
def k0_off39 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v669 : Index := Scalar.indexCast v654
  let c80_335 : Index := 80#32
  ![v669.toNat, 80]
def k0_off40 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v674 : Index := Scalar.indexCast v654
  let c32_336 : Index := 32#32
  ![v674.toNat, 32]
def k0_off41 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v677 : Index := Scalar.indexCast v654
  let c96_337 : Index := 96#32
  ![v677.toNat, 96]
def k0_off42 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v682 : Index := Scalar.indexCast v654
  let c48_338 : Index := 48#32
  ![v682.toNat, 48]
def k0_off43 (k0_t8 : Fin k0_t8_loop.trips) (c0_i32_330 : BitVec 32) : Fin 2 → Nat :=
  let c16_i32_329 : BitVec 32 := 16#32
  let c0_i32_173 : BitVec 32 := 0#32
  let c1_i32_175 : BitVec 32 := 1#32
  let arg19 : BitVec 32 := Scf.iv c0_i32_173 c1_i32_175 k0_t8
  let v653 : BitVec 32 := Scalar.muli c16_i32_329 arg19
  let v654 : BitVec 32 := Scalar.addi v653 c0_i32_330
  let v685 : Index := Scalar.indexCast v654
  let c112_339 : Index := 112#32
  ![v685.toNat, 112]
@[reducible] def k0_t9_loop : Scf.Loop 32 :=
  let c0_i32_180 : BitVec 32 := 0#32
  let c5_i32_181 : BitVec 32 := 5#32
  let v342 : BitVec 32 := Scalar.addi c0_i32_180 c5_i32_181
  let c1_i32_182 : BitVec 32 := 1#32
  ⟨c0_i32_180, v342, c1_i32_182⟩
def k0_off44 (k0_t3 : Fin k0_t3_loop.trips) (k0_t9 : Fin k0_t9_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let v647 : Index := Scalar.indexCast v331
  let c112_i32_327 : BitVec 32 := 112#32
  let c16_i32 : BitVec 32 := 16#32
  let c0_i32_180 : BitVec 32 := 0#32
  let c1_i32_182 : BitVec 32 := 1#32
  let arg19 : BitVec 32 := Scf.iv c0_i32_180 c1_i32_182 k0_t9
  let v645 : BitVec 32 := Scalar.muli c16_i32 arg19
  let v646 : BitVec 32 := Scalar.addi c112_i32_327 v645
  let v648 : Index := Scalar.indexCast v646
  ![v647.toNat, v648.toNat]
def k0_off45 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v658 : Index := Scalar.indexCast v654
  let c0_332 : Index := 0#32
  ![v658.toNat, 0]
def k0_off46 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v661 : Index := Scalar.indexCast v654
  let c64_333 : Index := 64#32
  ![v661.toNat, 64]
def k0_off47 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v666 : Index := Scalar.indexCast v654
  let c16_334 : Index := 16#32
  ![v666.toNat, 16]
def k0_off48 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v669 : Index := Scalar.indexCast v654
  let c80_335 : Index := 80#32
  ![v669.toNat, 80]
def k0_off49 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v674 : Index := Scalar.indexCast v654
  let c32_336 : Index := 32#32
  ![v674.toNat, 32]
def k0_off50 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v677 : Index := Scalar.indexCast v654
  let c96_337 : Index := 96#32
  ![v677.toNat, 96]
def k0_off51 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v682 : Index := Scalar.indexCast v654
  let c48_338 : Index := 48#32
  ![v682.toNat, 48]
def k0_off52 (k0_t9 : Fin k0_t9_loop.trips) (c0_i32_330 : BitVec 32) : Fin 2 → Nat :=
  let c16_i32_329 : BitVec 32 := 16#32
  let c0_i32_180 : BitVec 32 := 0#32
  let c1_i32_182 : BitVec 32 := 1#32
  let arg19 : BitVec 32 := Scf.iv c0_i32_180 c1_i32_182 k0_t9
  let v653 : BitVec 32 := Scalar.muli c16_i32_329 arg19
  let v654 : BitVec 32 := Scalar.addi v653 c0_i32_330
  let v685 : Index := Scalar.indexCast v654
  let c112_339 : Index := 112#32
  ![v685.toNat, 112]
def k0_off53 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let v344 : Index := Scalar.indexCast v331
  let c192_184 : Index := 192#32
  ![v344.toNat, 192]
def k0_off54 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let v629 : Index := Scalar.indexCast v331
  let c0_322 : Index := 0#32
  ![v629.toNat, 0]
def k0_off55 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let v633 : Index := Scalar.indexCast v331
  let c16_323 : Index := 16#32
  ![v633.toNat, 16]
def k0_off56 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let v637 : Index := Scalar.indexCast v331
  let c32_324 : Index := 32#32
  ![v637.toNat, 32]
def k0_off57 (k0_t3 : Fin k0_t3_loop.trips) : Fin 2 → Nat :=
  let c2_i32_16 : BitVec 32 := 2#32
  let c0_i32_13 : BitVec 32 := 0#32
  let c1_i32_14 : BitVec 32 := 1#32
  let arg17 : BitVec 32 := Scf.iv c0_i32_13 c1_i32_14 k0_t3
  let v14 : BitVec 32 := Scalar.muli c2_i32_16 arg17
  let c1_i32_166 : BitVec 32 := 1#32
  let v331 : BitVec 32 := Scalar.addi v14 c1_i32_166
  let v641 : Index := Scalar.indexCast v331
  let c48_325 : Index := 48#32
  ![v641.toNat, 48]
def k0_off58 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_16_r1 : BitVec 32 := 0#32
  ![v2.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_seq" => some ((200⁻¹ : ℝ) : EReal)
  | _ => none
-- ==== ReferenceIdeal.lean ====
abbrev S4096x200 : Shape := ⟨2, ![4096, 200]⟩
abbrev S1000000x64 : Shape := ⟨2, ![1000000, 64]⟩
abbrev S64x512 : Shape := ⟨2, ![64, 512]⟩
abbrev S512 : Shape := ⟨1, ![512]⟩
abbrev S512x128 : Shape := ⟨2, ![512, 128]⟩
abbrev S128 : Shape := ⟨1, ![128]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x64 : Shape := ⟨3, ![4096, 200, 64]⟩
abbrev S4096x64 : Shape := ⟨2, ![4096, 64]⟩
abbrev S4096x512 : Shape := ⟨2, ![4096, 512]⟩
abbrev S1x512 : Shape := ⟨2, ![1, 512]⟩
abbrev S4096x128 : Shape := ⟨2, ![4096, 128]⟩
abbrev S1x128 : Shape := ⟨2, ![1, 128]⟩

abbrev nBuf : Space → Nat
  | .hbm => 45
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x64, .f32⟩
  | .hbm, ⟨2, _⟩ => ⟨S64x512, .f32⟩
  | .hbm, ⟨3, _⟩ => ⟨S512, .f32⟩
  | .hbm, ⟨4, _⟩ => ⟨S512x128, .f32⟩
  | .hbm, ⟨5, _⟩ => ⟨S128, .f32⟩
  | .hbm, ⟨6, _⟩ => ⟨S_, .i32⟩
  | .hbm, ⟨7, _⟩ => ⟨S4096x200, .i32⟩
  | .hbm, ⟨8, _⟩ => ⟨S4096x200, .i1⟩
  | .hbm, ⟨9, _⟩ => ⟨S_, .i32⟩
  | .hbm, ⟨10, _⟩ => ⟨S4096x200, .i32⟩
  | .hbm, ⟨11, _⟩ => ⟨S4096x200, .i32⟩
  | .hbm, ⟨12, _⟩ => ⟨S4096x200, .i32⟩
  | .hbm, ⟨13, _⟩ => ⟨S4096x200x1, .i32⟩
  | .hbm, ⟨14, _⟩ => ⟨S1, .i32⟩
  | .hbm, ⟨15, _⟩ => ⟨S_, .i32⟩
  | .hbm, ⟨16, _⟩ => ⟨S4096x200x1, .i32⟩
  | .hbm, ⟨17, _⟩ => ⟨S4096x200x1, .i1⟩
  | .hbm, ⟨18, _⟩ => ⟨S1x1x1, .i32⟩
  | .hbm, ⟨19, _⟩ => ⟨S4096x200x1, .i32⟩
  | .hbm, ⟨20, _⟩ => ⟨S4096x200x1, .i1⟩
  | .hbm, ⟨21, _⟩ => ⟨S4096x200x1, .i1⟩
  | .hbm, ⟨22, _⟩ => ⟨S_, .i1⟩
  | .hbm, ⟨23, _⟩ => ⟨S4096x200, .i1⟩
  | .hbm, ⟨24, _⟩ => ⟨S4096x200x64, .f32⟩
  | .hbm, ⟨25, _⟩ => ⟨S4096x200x64, .i1⟩
  | .hbm, ⟨26, _⟩ => ⟨S_, .f32⟩
  | .hbm, ⟨27, _⟩ => ⟨S4096x200x64, .f32⟩
  | .hbm, ⟨28, _⟩ => ⟨S4096x200x64, .f32⟩
  | .hbm, ⟨29, _⟩ => ⟨S_, .f32⟩
  | .hbm, ⟨30, _⟩ => ⟨S4096x64, .f32⟩
  | .hbm, ⟨31, _⟩ => ⟨S_, .f32⟩
  | .hbm, ⟨32, _⟩ => ⟨S4096x64, .f32⟩
  | .hbm, ⟨33, _⟩ => ⟨S4096x64, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x128, .f32⟩
  | .hbm, ⟨42, _⟩ => ⟨S1x128, .f32⟩
  | .hbm, ⟨43, _⟩ => ⟨S4096x128, .f32⟩
  | .hbm, ⟨44, _⟩ => ⟨S4096x128, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_call1_cst : Ref sig .tc := ⟨.hbm, 38, rfl⟩
abbrev main_call1_v0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩

abbrev nD : Nat := 1
abbrev τ : Topo := Topo.v7x

variable {F : FTy → Type} [FloatOps F]
-- ==== Proof.Rows.lean ====
/-
  The tile's task as a short program. The printed task spells out its row sums: every sixteen table rows a block of a
  hundred and twenty-eight loads, and eight more rows at the end of each sum. Here one such row is a program of its own
  (`rowStep`: the eight loads of a row and the four additions), a block is sixteen of them in sequence, and each printed
  loop body, and the task's pair loop, is shown to be that program by definitional unfolding. Everything the proof says
  about a row sum is then said once, about `rowStep`.
-/
module

public import Idealize.ShloMosaic.Lib.Scf
public import proofs.«01_k».proof.Defs
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic Idealize.SL.Sem

variable {F : FTy → Type} [FloatOps F] [Named F]

/-- The four sixteen-lane partial sums of a row. -/
abbrev Acc (F : FTy → Type) : Type := FVec F S16 .f32 × FVec F S16 .f32 × FVec F S16 .f32 × FVec F S16 .f32

/-- A buffer of `n` gathered table rows. -/
abbrev SN (n : ℕ) : Shape := ⟨2, ![n, 128]⟩

/-- The programs of vector subcore `(i 0, i 1)`. -/
abbrev TProg (F : FTy → Type) [FloatOps F] (i : grid0.Coords) (α : Type) : Type 1 :=
  Prog (TpuEff nD τ sig (Elt F) Λ₀ (.scVector ((i 0).castLE hcore0) ((i 1).castLE hsub0))) α

/-- The low bits of sixteen indices. -/
def parities (v : Vec F S1x16 .i32) : IVec S16 32 := andi (shapeCast S16 v shapeCasts_S1x16_S16) (broadcast S16 1#32)

theorem slices_all : ∀ r : Fin 16, S16.Slices ![r.val] S1 := by decide

/-- Whether index `r` of the sixteen is odd. -/
def oddAt (p : IVec S16 32) (r : Fin 16) : BitVec 1 :=
  Scalar.cmpi .eq (extractAt ![0] (extractStridedSlice S1 ![r.val] p (slices_all r)) inpos_S1_p0) 1#32

/-- One lane group of a row: the odd half `hi` or the even half `lo` added on. -/
def addHalf (b : BitVec 1) (a : FVec F S16 .f32) (lo hi : Vec F S1x16 .f32) : FVec F S16 .f32 :=
  addf a (Scalar.select b (shapeCast S16 hi shapeCasts_S1x16_S16 : FVec F S16 .f32) (shapeCast S16 lo shapeCasts_S1x16_S16))

/-- A load of sixteen lanes of a row. -/
def lane16 (i : grid0.Coords) {n : ℕ} (M : Memref sig .scVector .vmem (SN n) .f32) (o : Fin 2 → ℕ)
    (h : ∀ a, o a + S1x16.size a ≤ (SN n).size a) : TProg F i (Vec F S1x16 .f32) :=
  Prog.lift (.load M (Rect.unit (s := SN n) o S1x16.size h).toLoadRect (View.loadsAt_vmem h_S1x16))

/-- One row: both halves of each of its four lane groups loaded, the one the parity names added on. -/
def rowStep (i : grid0.Coords) {n : ℕ} (M : Memref sig .scVector .vmem (SN n) .f32) (o : Fin 8 → Fin 2 → ℕ)
    (h : ∀ g a, o g a + S1x16.size a ≤ (SN n).size a) (b : BitVec 1) (a : Acc F) : TProg F i (Acc F) := do
  let x0 ← lane16 i M (o 0) (h 0)
  let y0 ← lane16 i M (o 1) (h 1)
  let x1 ← lane16 i M (o 2) (h 2)
  let y1 ← lane16 i M (o 3) (h 3)
  let x2 ← lane16 i M (o 4) (h 4)
  let y2 ← lane16 i M (o 5) (h 5)
  let x3 ← lane16 i M (o 6) (h 6)
  let y3 ← lane16 i M (o 7) (h 7)
  pure (addHalf b a.1 x0 y0, addHalf b a.2.1 x1 y1, addHalf b a.2.2.1 x2 y2, addHalf b a.2.2.2 x3 y3)

/-- A block: sixteen indices loaded, then the sixteen rows they name. -/
def block (i : grid0.Coords) (I : Memref sig .scVector .vmem S128x256 .i32) (oI : Fin 2 → ℕ)
    (hI : ∀ a, oI a + S1x16.size a ≤ S128x256.size a) {n : ℕ} (M : Memref sig .scVector .vmem (SN n) .f32)
    (o : Fin 16 → Fin 8 → Fin 2 → ℕ) (h : ∀ r g a, o r g a + S1x16.size a ≤ (SN n).size a) (a : Acc F) : TProg F i (Acc F) := do
  let v : Vec F S1x16 .i32 ← Prog.lift (.load I (Rect.unit (s := S128x256) oI S1x16.size hI).toLoadRect (View.loadsAt_vmem h_S1x16))
  Scf.forFrom (fun r a => rowStep i M (o r) (h r) (oddAt (parities v) r) a) (List.finRange 16) a

theorem rows16 : List.finRange 16 = [0, 1, 2, 3, 4, 5, 6, 7, 8, 9, 10, 11, 12, 13, 14, 15] := rfl
theorem rows8 : List.finRange 8 = [0, 1, 2, 3, 4, 5, 6, 7] := rfl

/-- The offsets of the last eight rows of the second buffer. -/
def offTail (r : Fin 8) (g : Fin 8) : Fin 2 → ℕ := ![80 + r.val, ![0, 64, 16, 80, 32, 96, 48, 112] g]

theorem offTail_inb (r g : Fin 8) (a : Fin 2) : offTail r g a + S1x16.size a ≤ (SN 88).size a := by
  revert r g a; decide

/-- Sixteen indices halved: a trip of the loops that make a list of the table's row numbers. -/
def halve (i : grid0.Coords) (I : Memref sig .scVector .vmem S128x256 .i32) (oI : Fin 2 → ℕ) (hI : ∀ a, oI a + S1x16.size a ≤ S128x256.size a)
    (L : Memref sig .scVector .vmem S256 .i32) (oL : Fin 1 → ℕ) (hL : ∀ a, oL a + S16.size a ≤ S256.size a) : TProg F i (BitVec 32) := do
  let v : Vec F S1x16 .i32 ← Prog.lift (.load I (Rect.unit (s := S128x256) oI S1x16.size hI).toLoadRect (View.loadsAt_vmem h_S1x16))
  let _u : Vec F S16 .i32 ← Prog.lift (.load L (Rect.unit (s := S256) oL S16.size hL).toLoadRect (View.loadsAt_vmem h_S16))
  Prog.lift (.store L (Rect.unit (s := S256) oL S16.size hL) (k0_pay384 v) Finset.univ (View.stores_vmem_bits_univ h_S16 rfl) (.inl rfl))
  pure 0#32

/-- Sixteen lanes stored into the tile's result. -/
def put16 (i : grid0.Coords) (O : Memref sig .scVector .vmem S128x128 .f32) (o : Fin 2 → ℕ) (h : ∀ a, o a + S1x16.size a ≤ S128x128.size a)
    (x : FVec F S1x16 .f32) : TProg F i PUnit := do
  let _u : Vec F S1x16 .f32 ← Prog.lift (.load O (Rect.unit (s := S128x128) o S1x16.size h).toLoadRect (View.loadsAt_vmem h_S1x16))
  Prog.lift (.store O (Rect.unit (s := S128x128) o S1x16.size h) x Finset.univ (View.stores_vmem_bits_univ h_S1x16 rfl) (.inl rfl))

/-- The whole table, as the gathers name it. -/
abbrev tbl (T : Memref sig .scVector .hbm S500000x128 .f32) : Memref sig .scVector .hbm S500000x128 .f32 :=
  T.slice (Rect.unit (s := S500000x128) ![0, 0] S500000x128.size inb_S500000x128_S500000x128_0_0) (fun _ => rfl)

/-- The first hundred and twelve row numbers of a list, and the next eighty-eight. -/
abbrev listA (L : Memref sig .scVector .vmem S256 .i32) : Memref sig .scVector .vmem S112 .i32 :=
  L.slice (Rect.unit (s := S256) ![0] S112.size inb_S256_S112_0) (fun _ => rfl)
abbrev listB (L : Memref sig .scVector .vmem S256 .i32) : Memref sig .scVector .vmem S88 .i32 :=
  L.slice (Rect.unit (s := S256) ![112] S88.size inb_S256_S88_112) (fun _ => rfl)

/-- The gather of the first hundred and twelve rows, and of the other eighty-eight. -/
def fireA (i : grid0.Coords) (T : Memref sig .scVector .hbm S500000x128 .f32) (L : Memref sig .scVector .vmem S256 .i32)
    (A : Memref sig .scVector .vmem S112x128 .f32) (s : DmaSems sig S_) : TProg F i PUnit :=
  SparseCore.enqueueIndirectGather rfl (tbl T) A gathers_S500000x128_S112x128 (listA L) rfl s.sem (View.wordExact_bits rfl) rfl (Or.inl rfl)
def fireB (i : grid0.Coords) (T : Memref sig .scVector .hbm S500000x128 .f32) (L : Memref sig .scVector .vmem S256 .i32)
    (B : Memref sig .scVector .vmem S88x128 .f32) (s : DmaSems sig S_) : TProg F i PUnit :=
  SparseCore.enqueueIndirectGather rfl (tbl T) B gathers_S500000x128_S88x128 (listB L) rfl s.sem (View.wordExact_bits rfl) rfl (Or.inl rfl)

/-- One row of the result: both gathers waited for, their rows added up, the sums stored. -/
def rowTask (i : grid0.Coords) (T : Memref sig .scVector .hbm S500000x128 .f32) (I : Memref sig .scVector .vmem S128x256 .i32)
    (A : Memref sig .scVector .vmem S112x128 .f32) (hA : A.IsWhole) (B : Memref sig .scVector .vmem S88x128 .f32) (hB : B.IsWhole)
    (O : Memref sig .scVector .vmem S128x128 .f32) (sA sB : DmaSems sig S_) (LA LB : Acc F → TProg F i (Acc F))
    (oI : Fin 2 → ℕ) (hI : ∀ a, oI a + S1x16.size a ≤ S128x256.size a)
    (oO : Fin 4 → Fin 2 → ℕ) (hO : ∀ g a, oO g a + S1x16.size a ≤ S128x128.size a) : TProg F i PUnit := do
  SparseCore.waitIndirectGather sA.sem (tbl T) A (View.wordExact_bits rfl) hA.wordExact
  let a ← LA (k0_pay379, k0_pay379, k0_pay379, k0_pay379)
  SparseCore.waitIndirectGather sB.sem (tbl T) B (View.wordExact_bits rfl) hB.wordExact
  let a ← LB a
  let v : Vec F S1x16 .i32 ← Prog.lift (.load I (Rect.unit (s := S128x256) oI S1x16.size hI).toLoadRect (View.loadsAt_vmem h_S1x16))
  let a ← Scf.forFrom (fun (r : Fin 8) a => rowStep i B (offTail r) (offTail_inb r) (oddAt (parities v) (r.castLE (by decide))) a) (List.finRange 8) a
  put16 i O (oO 0) (hO 0) (shapeCast S1x16 a.1 shapeCasts_S16_S1x16)
  put16 i O (oO 1) (hO 1) (shapeCast S1x16 a.2.1 shapeCasts_S16_S1x16)
  put16 i O (oO 2) (hO 2) (shapeCast S1x16 a.2.2.1 shapeCasts_S16_S1x16)
  put16 i O (oO 3) (hO 3) (shapeCast S1x16 a.2.2.2 shapeCasts_S16_S1x16)

/-- Where the even row of pair `j` is stored, and where the odd one is. -/
def offE (j : Fin k0_t3_loop.trips) : Fin 4 → Fin 2 → ℕ := ![k0_off29 j, k0_off30 j, k0_off31 j, k0_off32 j]
def offO (j : Fin k0_t3_loop.trips) : Fin 4 → Fin 2 → ℕ := ![k0_off54 j, k0_off55 j, k0_off56 j, k0_off57 j]

theorem offE_eq (j : Fin k0_t3_loop.trips) (g : Fin 4) : offE j g = ![2 * j.val, 16 * g.val] := by
  fin_cases g
  · exact k0_off29_eq j
  · exact k0_off30_eq j
  · exact k0_off31_eq j
  · exact k0_off32_eq j
theorem offO_eq (j : Fin k0_t3_loop.trips) (g : Fin 4) : offO j g = ![2 * j.val + 1, 16 * g.val] := by
  fin_cases g
  · exact k0_off54_eq j
  · exact k0_off55_eq j
  · exact k0_off56_eq j
  · exact k0_off57_eq j
theorem offE_inb (j : Fin k0_t3_loop.trips) (g : Fin 4) (a : Fin 2) : offE j g a + S1x16.size a ≤ S128x128.size a := by
  fin_cases g
  · exact k0_off29_inb j a
  · exact k0_off30_inb j a
  · exact k0_off31_inb j a
  · exact k0_off32_inb j a
theorem offO_inb (j : Fin k0_t3_loop.trips) (g : Fin 4) (a : Fin 2) : offO j g a + S1x16.size a ≤ S128x128.size a := by
  fin_cases g
  · exact k0_off54_inb j a
  · exact k0_off55_inb j a
  · exact k0_off56_inb j a
  · exact k0_off57_inb j a

/-- The offsets of the loads of row `r` of trip `k` of loop `k0_t5`. -/
def off_t5 (k : Fin k0_t5_loop.trips) (r : Fin 16) : Fin 8 → Fin 2 → ℕ :=
  ![k0_off11 k (BitVec.ofNat 32 r.val), k0_off12 k (BitVec.ofNat 32 r.val), k0_off13 k (BitVec.ofNat 32 r.val), k0_off14 k (BitVec.ofNat 32 r.val), k0_off15 k (BitVec.ofNat 32 r.val), k0_off16 k (BitVec.ofNat 32 r.val), k0_off17 k (BitVec.ofNat 32 r.val), k0_off18 k (BitVec.ofNat 32 r.val)]

theorem off_t5_eq (k : Fin k0_t5_loop.trips) (r : Fin 16) (g : Fin 8) : off_t5 k r g = ![16 * k.val + r.val, ![0, 64, 16, 80, 32, 96, 48, 112] g] := by
  fin_cases g
  · exact k0_off11_eq k r
  · exact k0_off12_eq k r
  · exact k0_off13_eq k r
  · exact k0_off14_eq k r
  · exact k0_off15_eq k r
  · exact k0_off16_eq k r
  · exact k0_off17_eq k r
  · exact k0_off18_eq k r

theorem off_t5_inb (k : Fin k0_t5_loop.trips) (r : Fin 16) (g : Fin 8) (a : Fin 2) : off_t5 k r g a + S1x16.size a ≤ (SN 112).size a := by
  fin_cases g
  · exact k0_off11_inb k r a
  · exact k0_off12_inb k r a
  · exact k0_off13_inb k r a
  · exact k0_off14_inb k r a
  · exact k0_off15_inb k r a
  · exact k0_off16_inb k r a
  · exact k0_off17_inb k r a
  · exact k0_off18_inb k r a

/-- The offsets of the loads of row `r` of trip `k` of loop `k0_t6`. -/
def off_t6 (k : Fin k0_t6_loop.trips) (r : Fin 16) : Fin 8 → Fin 2 → ℕ :=
  ![k0_off20 k (BitVec.ofNat 32 r.val), k0_off21 k (BitVec.ofNat 32 r.val), k0_off22 k (BitVec.ofNat 32 r.val), k0_off23 k (BitVec.ofNat 32 r.val), k0_off24 k (BitVec.ofNat 32 r.val), k0_off25 k (BitVec.ofNat 32 r.val), k0_off26 k (BitVec.ofNat 32 r.val), k0_off27 k (BitVec.ofNat 32 r.val)]

theorem off_t6_eq (k : Fin k0_t6_loop.trips) (r : Fin 16) (g : Fin 8) : off_t6 k r g = ![16 * k.val + r.val, ![0, 64, 16, 80, 32, 96, 48, 112] g] := by
  fin_cases g
  · exact k0_off20_eq k r
  · exact k0_off21_eq k r
  · exact k0_off22_eq k r
  · exact k0_off23_eq k r
  · exact k0_off24_eq k r
  · exact k0_off25_eq k r
  · exact k0_off26_eq k r
  · exact k0_off27_eq k r

theorem off_t6_inb (k : Fin k0_t6_loop.trips) (r : Fin 16) (g : Fin 8) (a : Fin 2) : off_t6 k r g a + S1x16.size a ≤ (SN 88).size a := by
  fin_cases g
  · exact k0_off20_inb k r a
  · exact k0_off21_inb k r a
  · exact k0_off22_inb k r a
  · exact k0_off23_inb k r a
  · exact k0_off24_inb k r a
  · exact k0_off25_inb k r a
  · exact k0_off26_inb k r a
  · exact k0_off27_inb k r a

/-- The offsets of the loads of row `r` of trip `k` of loop `k0_t8`. -/
def off_t8 (k : Fin k0_t8_loop.trips) (r : Fin 16) : Fin 8 → Fin 2 → ℕ :=
  ![k0_off36 k (BitVec.ofNat 32 r.val), k0_off37 k (BitVec.ofNat 32 r.val), k0_off38 k (BitVec.ofNat 32 r.val), k0_off39 k (BitVec.ofNat 32 r.val), k0_off40 k (BitVec.ofNat 32 r.val), k0_off41 k (BitVec.ofNat 32 r.val), k0_off42 k (BitVec.ofNat 32 r.val), k0_off43 k (BitVec.ofNat 32 r.val)]

theorem off_t8_eq (k : Fin k0_t8_loop.trips) (r : Fin 16) (g : Fin 8) : off_t8 k r g = ![16 * k.val + r.val, ![0, 64, 16, 80, 32, 96, 48, 112] g] := by
  fin_cases g
  · exact k0_off36_eq k r
  · exact k0_off37_eq k r
  · exact k0_off38_eq k r
  · exact k0_off39_eq k r
  · exact k0_off40_eq k r
  · exact k0_off41_eq k r
  · exact k0_off42_eq k r
  · exact k0_off43_eq k r

theorem off_t8_inb (k : Fin k0_t8_loop.trips) (r : Fin 16) (g : Fin 8) (a : Fin 2) : off_t8 k r g a + S1x16.size a ≤ (SN 112).size a := by
  fin_cases g
  · exact k0_off36_inb k r a
  · exact k0_off37_inb k r a
  · exact k0_off38_inb k r a
  · exact k0_off39_inb k r a
  · exact k0_off40_inb k r a
  · exact k0_off41_inb k r a
  · exact k0_off42_inb k r a
  · exact k0_off43_inb k r a

/-- The offsets of the loads of row `r` of trip `k` of loop `k0_t9`. -/
def off_t9 (k : Fin k0_t9_loop.trips) (r : Fin 16) : Fin 8 → Fin 2 → ℕ :=
  ![k0_off45 k (BitVec.ofNat 32 r.val), k0_off46 k (BitVec.ofNat 32 r.val), k0_off47 k (BitVec.ofNat 32 r.val), k0_off48 k (BitVec.ofNat 32 r.val), k0_off49 k (BitVec.ofNat 32 r.val), k0_off50 k (BitVec.ofNat 32 r.val), k0_off51 k (BitVec.ofNat 32 r.val), k0_off52 k (BitVec.ofNat 32 r.val)]

theorem off_t9_eq (k : Fin k0_t9_loop.trips) (r : Fin 16) (g : Fin 8) : off_t9 k r g = ![16 * k.val + r.val, ![0, 64, 16, 80, 32, 96, 48, 112] g] := by
  fin_cases g
  · exact k0_off45_eq k r
  · exact k0_off46_eq k r
  · exact k0_off47_eq k r
  · exact k0_off48_eq k r
  · exact k0_off49_eq k r
  · exact k0_off50_eq k r
  · exact k0_off51_eq k r
  · exact k0_off52_eq k r

theorem off_t9_inb (k : Fin k0_t9_loop.trips) (r : Fin 16) (g : Fin 8) (a : Fin 2) : off_t9 k r g a + S1x16.size a ≤ (SN 88).size a := by
  fin_cases g
  · exact k0_off45_inb k r a
  · exact k0_off46_inb k r a
  · exact k0_off47_inb k r a
  · exact k0_off48_inb k r a
  · exact k0_off49_inb k r a
  · exact k0_off50_inb k r a
  · exact k0_off51_inb k r a
  · exact k0_off52_inb k r a

section Task

variable (i : grid0.Coords)
  (arg2 : Memref sig .scVector .hbm S4096x256 .i32) (harg2 : arg2.IsWhole)
  (arg3 : Memref sig .scVector .hbm S500000x128 .f32) (harg3 : arg3.IsWhole)
  (arg4 : Memref sig .scVector .hbm S4096x128 .f32) (harg4 : arg4.IsWhole)
  (arg5 : Memref sig .scVector .vmem S128x256 .i32) (harg5 : arg5.IsWhole)
  (arg6 : Memref sig .scVector .vmem S256 .i32) (harg6 : arg6.IsWhole)
  (arg7 : Memref sig .scVector .vmem S256 .i32) (harg7 : arg7.IsWhole)
  (arg8 : Memref sig .scVector .vmem S112x128 .f32) (harg8 : arg8.IsWhole)
  (arg9 : Memref sig .scVector .vmem S112x128 .f32) (harg9 : arg9.IsWhole)
  (arg10 : Memref sig .scVector .vmem S88x128 .f32) (harg10 : arg10.IsWhole)
  (arg11 : Memref sig .scVector .vmem S88x128 .f32) (harg11 : arg11.IsWhole)
  (arg12 : Memref sig .scVector .vmem S128x128 .f32) (harg12 : arg12.IsWhole)
  (arg13 arg14 arg15 arg16 v14_r0 v14_r1 : DmaSems sig S_)

set_option maxRecDepth 65536 in
set_option maxHeartbeats 8000000 in
/-- A trip of `k0_t5` is a block. -/
theorem t5_eq (v3 : FVec F S16 .f32) (c0 c1 : BitVec 32) (j : Fin k0_t3_loop.trips) (v14 : BitVec 32) :
    k0_t5_body i arg2 harg2 arg3 harg3 arg4 harg4 arg5 harg5 arg6 harg6 arg7 harg7 arg8 harg8 arg9 harg9 arg10 harg10 arg11 harg11 arg12 harg12 arg13 arg14 arg15 arg16 v14_r0 v14_r1 v3 c0 c1 j v14
      = fun k a => block i arg5 (k0_off10 j k) (k0_off10_inb j k) arg8 (off_t5 k) (off_t5_inb k) a := by
  funext k a
  obtain ⟨a0, a1, a2, a3⟩ := a
  unfold block
  simp only [rows16, Scf.forFrom_cons, Scf.forFrom_nil, rowStep, lane16, Prog.lift, bind, Prog.bind, pure]
  rfl

set_option maxRecDepth 65536 in
set_option maxHeartbeats 8000000 in
/-- A trip of `k0_t6` is a block. -/
theorem t6_eq (v3 : FVec F S16 .f32) (c0 c1 : BitVec 32) (j : Fin k0_t3_loop.trips) (v14 : BitVec 32) :
    k0_t6_body i arg2 harg2 arg3 harg3 arg4 harg4 arg5 harg5 arg6 harg6 arg7 harg7 arg8 harg8 arg9 harg9 arg10 harg10 arg11 harg11 arg12 harg12 arg13 arg14 arg15 arg16 v14_r0 v14_r1 v3 c0 c1 j v14
      = fun k a => block i arg5 (k0_off19 j k) (k0_off19_inb j k) arg10 (off_t6 k) (off_t6_inb k) a := by
  funext k a
  obtain ⟨a0, a1, a2, a3⟩ := a
  unfold block
  simp only [rows16, Scf.forFrom_cons, Scf.forFrom_nil, rowStep, lane16, Prog.lift, bind, Prog.bind, pure]
  rfl

set_option maxRecDepth 65536 in
set_option maxHeartbeats 8000000 in
/-- A trip of `k0_t8` is a block. -/
theorem t8_eq (v3 : FVec F S16 .f32) (j : Fin k0_t3_loop.trips) (v14 : BitVec 32) (x0 x1 x2 : FVec F S16 .f32) (u : Vec F S1x16 .f32) (w : BitVec 32) :
    k0_t8_body i arg2 harg2 arg3 harg3 arg4 harg4 arg5 harg5 arg6 harg6 arg7 harg7 arg8 harg8 arg9 harg9 arg10 harg10 arg11 harg11 arg12 harg12 arg13 arg14 arg15 arg16 v14_r0 v14_r1 v3 j v14 x0 x1 x2 u w
      = fun k a => block i arg5 (k0_off35 j k) (k0_off35_inb j k) arg9 (off_t8 k) (off_t8_inb k) a := by
  funext k a
  obtain ⟨a0, a1, a2, a3⟩ := a
  unfold block
  simp only [rows16, Scf.forFrom_cons, Scf.forFrom_nil, rowStep, lane16, Prog.lift, bind, Prog.bind, pure]
  rfl

set_option maxRecDepth 65536 in
set_option maxHeartbeats 8000000 in
/-- A trip of `k0_t9` is a block. -/
theorem t9_eq (v3 : FVec F S16 .f32) (j : Fin k0_t3_loop.trips) (v14 : BitVec 32) (x0 x1 x2 : FVec F S16 .f32) (u : Vec F S1x16 .f32) (w : BitVec 32) :
    k0_t9_body i arg2 harg2 arg3 harg3 arg4 harg4 arg5 harg5 arg6 harg6 arg7 harg7 arg8 harg8 arg9 harg9 arg10 harg10 arg11 harg11 arg12 harg12 arg13 arg14 arg15 arg16 v14_r0 v14_r1 v3 j v14 x0 x1 x2 u w
      = fun k a => block i arg5 (k0_off44 j k) (k0_off44_inb j k) arg11 (off_t9 k) (off_t9_inb k) a := by
  funext k a
  obtain ⟨a0, a1, a2, a3⟩ := a
  unfold block
  simp only [rows16, Scf.forFrom_cons, Scf.forFrom_nil, rowStep, lane16, Prog.lift, bind, Prog.bind, pure]
  rfl

/-- The list of row numbers of the tile's row `2 j + 2`, and its gathers: what a pair but the last starts for the next. -/
def nextTask (j : Fin k0_t3_loop.trips) : TProg F i PUnit :=
  if h : k0_cond1 j = 1#1 then do
    let _u : BitVec 32 ← Scf.Loop.for k0_t7_loop (k0_t7_ok j h) 0#32
      (fun k _ => halve i arg5 (k0_off33 j k) (k0_off33_inb j k h) arg6 (k0_off34 k) (k0_off34_inb j k h))
    fireA i arg3 arg6 arg8 arg13
    fireB i arg3 arg6 arg10 arg15
    pure ⟨⟩
  else pure ⟨⟩

/-- Pair `j`: the odd row's list and gathers, the even row, the next even row's list and gathers, the odd row. -/
def pairTask (j : Fin k0_t3_loop.trips) : TProg F i (BitVec 32) := do
  let _u : BitVec 32 ← Scf.Loop.for k0_t4_loop k0_t4_ok 0#32
    (fun k _ => halve i arg5 (k0_off8 j k) (k0_off8_inb j k) arg7 (k0_off9 k) (k0_off9_inb k))
  fireA i arg3 arg7 arg9 arg14
  fireB i arg3 arg7 arg11 arg16
  rowTask i arg3 arg5 arg8 harg8 arg10 harg10 arg12 arg13 arg15
    (fun a => Scf.Loop.for k0_t5_loop k0_t5_ok a fun k a => block i arg5 (k0_off10 j k) (k0_off10_inb j k) arg8 (off_t5 k) (off_t5_inb k) a)
    (fun a => Scf.Loop.for k0_t6_loop k0_t6_ok a fun k a => block i arg5 (k0_off19 j k) (k0_off19_inb j k) arg10 (off_t6 k) (off_t6_inb k) a)
    (k0_off28 j) (k0_off28_inb j) (offE j) (offE_inb j)
  nextTask i arg3 arg5 arg6 arg8 arg10 arg13 arg15 j
  rowTask i arg3 arg5 arg9 harg9 arg11 harg11 arg12 arg14 arg16
    (fun a => Scf.Loop.for k0_t8_loop k0_t8_ok a fun k a => block i arg5 (k0_off35 j k) (k0_off35_inb j k) arg9 (off_t8 k) (off_t8_inb k) a)
    (fun a => Scf.Loop.for k0_t9_loop k0_t9_ok a fun k a => block i arg5 (k0_off44 j k) (k0_off44_inb j k) arg11 (off_t9 k) (off_t9_inb k) a)
    (k0_off53 j) (k0_off53_inb j) (offO j) (offO_inb j)
  pure 0#32

/-- The even row up to its last eight rows, as printed; -/
def head1 (j : Fin k0_t3_loop.trips) : TProg F i (Acc F × Vec F S1x16 .i32) := do
  let _u : BitVec 32 ← Scf.Loop.for k0_t4_loop k0_t4_ok 0#32
    (fun k _ => halve i arg5 (k0_off8 j k) (k0_off8_inb j k) arg7 (k0_off9 k) (k0_off9_inb k))
  fireA i arg3 arg7 arg9 arg14
  fireB i arg3 arg7 arg11 arg16
  SparseCore.waitIndirectGather arg13.sem (tbl arg3) arg8 (View.wordExact_bits rfl) harg8.wordExact
  let a : Acc F ← Scf.Loop.for k0_t5_loop k0_t5_ok ((k0_pay379, k0_pay379, k0_pay379, k0_pay379) : Acc F)
    (fun k a => block i arg5 (k0_off10 j k) (k0_off10_inb j k) arg8 (off_t5 k) (off_t5_inb k) a)
  SparseCore.waitIndirectGather arg15.sem (tbl arg3) arg10 (View.wordExact_bits rfl) harg10.wordExact
  let a : Acc F ← Scf.Loop.for k0_t6_loop k0_t6_ok a
    (fun k a => block i arg5 (k0_off19 j k) (k0_off19_inb j k) arg10 (off_t6 k) (off_t6_inb k) a)
  let v : Vec F S1x16 .i32 ← Prog.lift (.load arg5 (Rect.unit (s := S128x256) (k0_off28 j) S1x16.size (k0_off28_inb j)).toLoadRect (View.loadsAt_vmem h_S1x16))
  pure (a, v)

/-- the odd row up to its last eight rows; -/
def head2 (j : Fin k0_t3_loop.trips) : TProg F i (Acc F × Vec F S1x16 .i32) := do
  SparseCore.waitIndirectGather arg14.sem (tbl arg3) arg9 (View.wordExact_bits rfl) harg9.wordExact
  let a : Acc F ← Scf.Loop.for k0_t8_loop k0_t8_ok ((k0_pay379, k0_pay379, k0_pay379, k0_pay379) : Acc F)
    (fun k a => block i arg5 (k0_off35 j k) (k0_off35_inb j k) arg9 (off_t8 k) (off_t8_inb k) a)
  SparseCore.waitIndirectGather arg16.sem (tbl arg3) arg11 (View.wordExact_bits rfl) harg11.wordExact
  let a : Acc F ← Scf.Loop.for k0_t9_loop k0_t9_ok a
    (fun k a => block i arg5 (k0_off44 j k) (k0_off44_inb j k) arg11 (off_t9 k) (off_t9_inb k) a)
  let v : Vec F S1x16 .i32 ← Prog.lift (.load arg5 (Rect.unit (s := S128x256) (k0_off53 j) S1x16.size (k0_off53_inb j)).toLoadRect (View.loadsAt_vmem h_S1x16))
  pure (a, v)

/-- from the even row's second store to the odd row's last eight rows; -/
def middle (j : Fin k0_t3_loop.trips) (a1 a2 a3 : FVec F S16 .f32) : TProg F i (Acc F × Vec F S1x16 .i32) := do
  Prog.lift (.store arg12 (Rect.unit (s := S128x128) (offE j 1) S1x16.size (offE_inb j 1)) (shapeCast S1x16 a1 shapeCasts_S16_S1x16 : FVec F S1x16 .f32)
    Finset.univ (View.stores_vmem_bits_univ h_S1x16 rfl) (.inl rfl))
  put16 i arg12 (offE j 2) (offE_inb j 2) (shapeCast S1x16 a2 shapeCasts_S16_S1x16)
  put16 i arg12 (offE j 3) (offE_inb j 3) (shapeCast S1x16 a3 shapeCasts_S16_S1x16)
  nextTask i arg3 arg5 arg6 arg8 arg10 arg13 arg15 j
  head2 i arg3 arg5 arg9 harg9 arg11 harg11 arg14 arg16 j

/-- the even row's last eight rows and its first store; -/
def tail1 (j : Fin k0_t3_loop.trips) (p : IVec S16 32) (a : Acc F) : TProg F i (Σ' (_ _ _ : FVec F S16 .f32), Vec F S1x16 .f32) := do
  let a ← Scf.forFrom (fun (r : Fin 8) a => rowStep i arg10 (offTail r) (offTail_inb r) (oddAt p (r.castLE (by decide))) a) (List.finRange 8) a
  put16 i arg12 (offE j 0) (offE_inb j 0) (shapeCast S1x16 a.1 shapeCasts_S16_S1x16)
  let v : Vec F S1x16 .f32 ← Prog.lift (.load arg12 (Rect.unit (s := S128x128) (offE j 1) S1x16.size (offE_inb j 1)).toLoadRect (View.loadsAt_vmem h_S1x16))
  pure ⟨a.2.1, a.2.2.1, a.2.2.2, v⟩

/-- the odd row's last eight rows and its stores. -/
def tail2 (j : Fin k0_t3_loop.trips) (p : IVec S16 32) (a : Acc F) : TProg F i (BitVec 32) := do
  let a ← Scf.forFrom (fun (r : Fin 8) a => rowStep i arg11 (offTail r) (offTail_inb r) (oddAt p (r.castLE (by decide))) a) (List.finRange 8) a
  put16 i arg12 (offO j 0) (offO_inb j 0) (shapeCast S1x16 a.1 shapeCasts_S16_S1x16)
  put16 i arg12 (offO j 1) (offO_inb j 1) (shapeCast S1x16 a.2.1 shapeCasts_S16_S1x16)
  put16 i arg12 (offO j 2) (offO_inb j 2) (shapeCast S1x16 a.2.2.1 shapeCasts_S16_S1x16)
  put16 i arg12 (offO j 3) (offO_inb j 3) (shapeCast S1x16 a.2.2.2 shapeCasts_S16_S1x16)
  pure 0#32

theorem head1_eq (j : Fin k0_t3_loop.trips) : k0_part53 (F := F) i arg2 harg2 arg3 harg3 arg4 harg4 arg5 harg5 arg6 harg6 arg7 harg7 arg8 harg8 arg9 harg9 arg10 harg10 arg11 harg11 arg12 harg12 arg13 arg14 arg15 arg16 v14_r0 v14_r1 k0_pay379 0#32 1#32 j
    = head1 i arg3 arg5 arg7 arg8 harg8 arg9 arg10 harg10 arg11 arg13 arg14 arg15 arg16 j >>= fun y =>
      pure ⟨Scalar.muli 2#32 (Scf.iv 0#32 1#32 j), y.1.1, y.1.2.1, y.1.2.2.1, y.1.2.2.2, parities y.2, oddAt (parities y.2) 0, 80#32⟩ := by
  rw [k0_part53_eq_skeleton]
  unfold k0_part53_skel head1
  simp only [t5_eq, t6_eq, bind_assoc, pure_bind]
  rfl

theorem middle_eq (j : Fin k0_t3_loop.trips) (a1 a2 a3 : FVec F S16 .f32) (v : Vec F S1x16 .f32) :
    k0_part61 (F := F) i arg2 harg2 arg3 harg3 arg4 harg4 arg5 harg5 arg6 harg6 arg7 harg7 arg8 harg8 arg9 harg9 arg10 harg10 arg11 harg11 arg12 harg12 arg13 arg14 arg15 arg16 v14_r0 v14_r1 k0_pay379 j (Scalar.muli 2#32 (Scf.iv 0#32 1#32 j)) a1 a2 a3 v
    = middle i arg3 arg5 arg6 arg8 arg9 harg9 arg10 arg11 harg11 arg12 arg13 arg14 arg15 arg16 j a1 a2 a3 >>= fun y =>
      pure ⟨Scalar.addi (Scalar.muli 2#32 (Scf.iv 0#32 1#32 j)) 1#32, y.1.1, y.1.2.1, y.1.2.2.1, y.1.2.2.2, parities y.2, oddAt (parities y.2) 0⟩ := by
  rw [k0_part61_eq_skeleton]
  unfold k0_part61_skel middle head2 nextTask put16
  by_cases h : k0_cond1 j = 1#1
  · simp only [dif_pos h, t8_eq, t9_eq, bind_assoc, pure_bind]
    rfl
  · simp only [dif_neg h, t8_eq, t9_eq, bind_assoc, pure_bind]
    rfl

set_option maxRecDepth 65536 in
set_option maxHeartbeats 8000000 in
theorem tail1_eq (j : Fin k0_t3_loop.trips) (w : BitVec 32) (y : Acc F × Vec F S1x16 .i32) : (do
    let ⟨v45, v53, v61, v69, v72, v75, v77⟩ ← k0_part54 (F := F) i arg2 harg2 arg3 harg3 arg4 harg4 arg5 harg5 arg6 harg6 arg7 harg7 arg8 harg8 arg9 harg9 arg10 harg10 arg11 harg11 arg12 harg12 arg13 arg14 arg15 arg16 v14_r0 v14_r1 y.1.1 y.1.2.1 y.1.2.2.1 y.1.2.2.2 (parities y.2) (oddAt (parities y.2) 0) 80#32
    let ⟨v88, v96, v104, v107, v115, v118⟩ ← k0_part55 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v45 v53 v61 v69 v72 v75 v77
    let ⟨v131, v139, v142, v150, v158, c83_i32_90⟩ ← k0_part56 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v88 v96 v104 v107 v115 v118
    let ⟨v166, v174, v177, v185, v193, v196, v198⟩ ← k0_part57 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v131 v139 v142 v150 v158 c83_i32_90
    let ⟨v209, v212, v220, v228, v236, v239⟩ ← k0_part58 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v166 v174 v177 v185 v193 v196 v198
    let ⟨v255, v263, v271, v279, v280⟩ ← k0_part59 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v209 v212 v220 v228 v236 v239
    k0_part60 i arg2 harg2 arg3 harg3 arg4 harg4 arg5 harg5 arg6 harg6 arg7 harg7 arg8 harg8 arg9 harg9 arg10 harg10 arg11 harg11 arg12 harg12 arg13 arg14 arg15 arg16 v14_r0 v14_r1 j w v255 v263 v271 v279 v280)
    = tail1 i arg10 arg12 j (parities y.2) y.1 := by
  obtain ⟨⟨a0, a1, a2, a3⟩, v⟩ := y
  unfold tail1
  conv_rhs => simp only [rows8, Scf.forFrom_cons, Scf.forFrom_nil, rowStep, lane16, put16, Prog.lift, bind, Prog.bind, pure]
  rfl

set_option maxRecDepth 65536 in
set_option maxHeartbeats 8000000 in
theorem tail2_eq (j : Fin k0_t3_loop.trips) (w : BitVec 32) (y : Acc F × Vec F S1x16 .i32) : (do
    let ⟨v359, v367, v375, v383, v386, v389⟩ ← k0_part62 (F := F) i arg2 harg2 arg3 harg3 arg4 harg4 arg5 harg5 arg6 harg6 arg7 harg7 arg8 harg8 arg9 harg9 arg10 harg10 arg11 harg11 arg12 harg12 arg13 arg14 arg15 arg16 v14_r0 v14_r1 y.1.1 y.1.2.1 y.1.2.2.1 y.1.2.2.2 (parities y.2) (oddAt (parities y.2) 0)
    let ⟨v402, v410, v418, v421, v429, v431⟩ ← k0_part63 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v359 v367 v375 v383 v386 v389
    let ⟨v445, v453, v456, v464, v472⟩ ← k0_part64 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v402 v410 v418 v421 v429 v431
    let ⟨v480, v488, v491, v499, v507, v510⟩ ← k0_part65 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v445 v453 v456 v464 v472
    let ⟨v523, v526, v534, v542, v550, v552⟩ ← k0_part66 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v480 v488 v491 v499 v507 v510
    let ⟨v569, v577, v585, v593⟩ ← k0_part67 i arg2 harg2 arg3 harg3 arg4 harg4 arg5 harg5 arg6 harg6 arg7 harg7 arg8 harg8 arg9 harg9 arg10 harg10 arg11 harg11 arg12 harg12 arg13 arg14 arg15 arg16 v14_r0 v14_r1 (parities y.2) v523 v526 v534 v542 v550 v552
    let ⟨v612, v620, v628⟩ ← k0_part68 i arg2 harg2 arg3 harg3 arg4 harg4 arg5 harg5 arg6 harg6 arg7 harg7 arg8 harg8 arg9 harg9 arg10 harg10 arg11 harg11 arg12 harg12 arg13 arg14 arg15 arg16 v14_r0 v14_r1 j w (parities y.2) v569 v577 v585 v593
    let _ : Vec F S1x16 .f32 ← Prog.lift (.load arg12 (Rect.unit (s := S128x128) (k0_off55 j) S1x16.size (k0_off55_inb j)).toLoadRect (View.loadsAt_vmem h_S1x16))
    Prog.lift (.store arg12 (Rect.unit (s := S128x128) (k0_off55 j) S1x16.size (k0_off55_inb j)) (k0_pay385 v612) Finset.univ (View.stores_vmem_bits_univ h_S1x16 rfl) (.inl rfl))
    let _ : Vec F S1x16 .f32 ← Prog.lift (.load arg12 (Rect.unit (s := S128x128) (k0_off56 j) S1x16.size (k0_off56_inb j)).toLoadRect (View.loadsAt_vmem h_S1x16))
    Prog.lift (.store arg12 (Rect.unit (s := S128x128) (k0_off56 j) S1x16.size (k0_off56_inb j)) (k0_pay386 v620) Finset.univ (View.stores_vmem_bits_univ h_S1x16 rfl) (.inl rfl))
    let _ : Vec F S1x16 .f32 ← Prog.lift (.load arg12 (Rect.unit (s := S128x128) (k0_off57 j) S1x16.size (k0_off57_inb j)).toLoadRect (View.loadsAt_vmem h_S1x16))
    Prog.lift (.store arg12 (Rect.unit (s := S128x128) (k0_off57 j) S1x16.size (k0_off57_inb j)) (k0_pay387 v628) Finset.univ (View.stores_vmem_bits_univ h_S1x16 rfl) (.inl rfl))
    pure 0#32)
    = tail2 i arg11 arg12 j (parities y.2) y.1 := by
  obtain ⟨⟨a0, a1, a2, a3⟩, v⟩ := y
  unfold tail2
  conv_rhs => simp only [rows8, Scf.forFrom_cons, Scf.forFrom_nil, rowStep, lane16, put16, Prog.lift, bind, Prog.bind, pure]
  rfl

set_option maxRecDepth 65536 in
set_option maxHeartbeats 8000000 in
/-- A trip of the pair loop is its two rows and the list for the next. -/
theorem t3_eq (j : Fin k0_t3_loop.trips) (w : BitVec 32) : k0_t3_body (F := F) i arg2 harg2 arg3 harg3 arg4 harg4 arg5 harg5 arg6 harg6 arg7 harg7 arg8 harg8 arg9 harg9 arg10 harg10 arg11 harg11 arg12 harg12 arg13 arg14 arg15 arg16 v14_r0 v14_r1 j w
    = pairTask i arg3 arg5 arg6 arg7 arg8 harg8 arg9 harg9 arg10 harg10 arg11 harg11 arg12 arg13 arg14 arg15 arg16 j := by
  have e : k0_t3_body (F := F) i arg2 harg2 arg3 harg3 arg4 harg4 arg5 harg5 arg6 harg6 arg7 harg7 arg8 harg8 arg9 harg9 arg10 harg10 arg11 harg11 arg12 harg12 arg13 arg14 arg15 arg16 v14_r0 v14_r1 j w = (do
      let y ← head1 i arg3 arg5 arg7 arg8 harg8 arg9 arg10 harg10 arg11 arg13 arg14 arg15 arg16 j
      let x ← tail1 i arg10 arg12 j (parities y.2) y.1
      let y ← middle i arg3 arg5 arg6 arg8 arg9 harg9 arg10 arg11 harg11 arg12 arg13 arg14 arg15 arg16 j x.1 x.2.1 x.2.2.1
      tail2 i arg11 arg12 j (parities y.2) y.1) := by
    unfold k0_t3_body
    rw [head1_eq, bind_assoc]
    refine bind_congr fun y => ?_
    rw [pure_bind]
    simp only [middle_eq, bind_assoc, pure_bind, ← tail2_eq i arg2 harg2 arg3 harg3 arg4 harg4 arg5 harg5 arg6 harg6 arg7 harg7 arg8 harg8 arg9 harg9 arg10 harg10 arg11 harg11 arg12 harg12 arg13 arg14 arg15 arg16 v14_r0 v14_r1 j (Scalar.addi (Scalar.muli 2#32 (Scf.iv 0#32 1#32 j)) 1#32)]
    rw [← tail1_eq i arg2 harg2 arg3 harg3 arg4 harg4 arg5 harg5 arg6 harg6 arg7 harg7 arg8 harg8 arg9 harg9 arg10 harg10 arg11 harg11 arg12 harg12 arg13 arg14 arg15 arg16 v14_r0 v14_r1 j (Scalar.muli 2#32 (Scf.iv 0#32 1#32 j))]
    rfl
  rw [e]
  unfold head1 tail1 middle head2 tail2 pairTask rowTask nextTask put16
  by_cases h : k0_cond1 j = 1#1
  · simp only [dif_pos h, bind_assoc, pure_bind]
  · simp only [dif_neg h, bind_assoc, pure_bind]

end Task

end Cert.Proof.KernelIdeal

end
-- ==== Proof.Sums.lean ====
/-
  The row sums. `psum w G n l` is lane `l` of the sum of a row's first `n` items, left to right from zero; item `s` is
  lane `l` of the half of table row `G s` that the parity of index `w s` names. A row step takes the four lane groups
  of `psum w G n` to those of `psum w G (n + 1)`, a block of sixteen to `psum w G (n + 16)`; the two buffers of
  gathered rows are only read.
-/
module

public import proofs.«01_k».proof.Proof.Rows
public import Idealize.ShloMosaic.Lib.SparseCore.Quiescent
public import Idealize.ShloMosaic.Lib.SparseCore.Ops
public import Idealize.ShloMosaic.Lib.SparseCore.Stream
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.WritesUnit
public import Idealize.ShloMosaic.Lib.ValueLayout
public import Idealize.ShloMosaic.Lib.Tactic

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The resource algebra: the handshakes' rounds library, the transfers' counters -/

abbrev 𝒱₀ : Variants := Variants.none
abbrev UH : Type := URounds (GSem nD τ sig) ℕ
abbrev UU : Type := UH × UR sig nD τ × Counters
abbrev MM (F : FTy → Type) : Type := MT nD τ sig (HIx 1) (Elt F) ℕ UU ℕ

/-- A tile as a thread of its device. -/
abbrev tid (d : Dev nD) (i : grid0.Coords) : Thread nD τ := V d ((i 0).castLE hcore0) ((i 1).castLE hsub0)

/-- A tile's program run to a post. -/
abbrev twp {α : Type} (d : Dev nD) (i : grid0.Coords) (E : Set ℕ) (p : TProg F i α) (Q : α → sProp (MM F)) : sProp (MM F) :=
  wp frame (wpE (defs₀ (F := F)) 𝒱₀ (tid d i) none) E p Q

/-! ## The values -/

/-- The zero the sums start from. -/
def fzero : F .f32 := Scalar.ofBits .f32 0x00000000#32

/-- An index halved: its table row's number. -/
def half (w : BitVec 32) : BitVec 32 := w.sshiftRight 1

/-- Item `s` of a row at lane `l`: the half of table row `G s` that index `w s` names. -/
def item (w : ℕ → BitVec 32) (G : ℕ → ℕ → F .f32) (s l : ℕ) : F .f32 :=
  if w s &&& 1#32 = 1#32 then G s (64 + l) else G s l

/-- The sum of the first `n` items, from the left. -/
def psum (w : ℕ → BitVec 32) (G : ℕ → ℕ → F .f32) : ℕ → ℕ → F .f32
  | 0, _ => fzero
  | n + 1, l => FloatOps.addf (psum w G n l) (item w G n l)

/-- The four lane groups of a function of the lane. -/
def sums (p : ℕ → F .f32) : Acc F :=
  (fun x => p (x 0).val, fun x => p (16 + (x 0).val), fun x => p (32 + (x 0).val), fun x => p (48 + (x 0).val))

theorem sums_zero (w : ℕ → BitVec 32) (G : ℕ → ℕ → F .f32) :
    ((k0_pay379, k0_pay379, k0_pay379, k0_pay379) : Acc F) = sums (psum w G 0) := rfl

/-- A rank-two buffer's contents, by coordinates. -/
def Holds2 {κ : Kind} {sp : Space} {n m : ℕ} {e : EltTy} (M : Memref sig κ sp ⟨2, ![n, m]⟩ e) (f : M.view.ty.Contents (Elt F))
    (v : ℕ → ℕ → Elt F e) : Prop := ∀ x, M.view.read (Elt F) f x = v (x 0).val (x 1).val

/-- Sixteen lanes loaded from a rank-two buffer. -/
theorem Holds2.lanes {κ : Kind} {sp : Space} {n m : ℕ} {e : EltTy} {M : Memref sig κ sp ⟨2, ![n, m]⟩ e} {f : M.view.ty.Contents (Elt F)}
    {v : ℕ → ℕ → Elt F e} (h : Holds2 M f v) {o : Fin 2 → ℕ} {r c : ℕ} (ho : o = ![r, c])
    (hb : ∀ a, o a + S1x16.size a ≤ (⟨2, ![n, m]⟩ : Shape).size a) (l : Fin 16) :
    M.view.readAt (Elt F) (Rect.unit (s := ⟨2, ![n, m]⟩) o S1x16.size hb).toLoadRect f (ix2 (0 : Fin 1) l) = v r (c + l.val) := by
  subst ho
  rw [View.readAt_apply, h]
  congr 1
  · show c + 1 * l.val = _
    omega

theorem oddAt_parities (v : Vec F S1x16 .i32) (r : Fin 16) :
    oddAt (parities v) r = if v (ix2 (0 : Fin 1) r) &&& 1#32 = 1#32 then 1#1 else 0#1 := by
  have e : extractAt ![0] (extractStridedSlice S1 ![r.val] (parities v) (slices_all r)) inpos_S1_p0 = v (ix2 (0 : Fin 1) r) &&& 1#32 := by
    have h : shapeCast S16 v shapeCasts_S1x16_S16 (ix1 r) = v (ix2 (0 : Fin 1) r) := shapeCast_1a_a_apply v _ r
    rw [← h]
    show shapeCast S16 v shapeCasts_S1x16_S16 _ &&& 1#32 = _
    congr 2
    exact eq_ix1 _
  unfold oddAt
  rw [e]
  by_cases h : v (ix2 (0 : Fin 1) r) &&& 1#32 = 1#32
  · rw [if_pos h, h]; rfl
  · rw [if_neg h]
    show BitVec.ofBool (_ == _) = _
    rw [beq_eq_false_iff_ne.mpr h]; rfl

theorem addHalf_eq (c : Prop) [Decidable c] (p : ℕ → F .f32) (o : ℕ) (a : FVec F S16 .f32) (ha : a = fun x => p (o + (x 0).val))
    (lo hi : Vec F S1x16 .f32) (vlo vhi : ℕ → F .f32) (hlo : ∀ l : Fin 16, lo (ix2 (0 : Fin 1) l) = vlo (o + l.val))
    (hhi : ∀ l : Fin 16, hi (ix2 (0 : Fin 1) l) = vhi (o + l.val)) :
    addHalf (if c then 1#1 else 0#1) a lo hi
      = fun x => FloatOps.addf (p (o + (x 0).val)) (if c then vhi (o + (x 0).val) else vlo (o + (x 0).val)) := by
  subst ha
  funext x
  obtain ⟨l, rfl⟩ : ∃ l, x = ix1 l := ⟨x 0, eq_ix1 x⟩
  have e1 : shapeCast S16 lo shapeCasts_S1x16_S16 (ix1 l) = vlo (o + l.val) := (shapeCast_1a_a_apply lo _ l).trans (hlo l)
  have e2 : shapeCast S16 hi shapeCasts_S1x16_S16 (ix1 l) = vhi (o + l.val) := (shapeCast_1a_a_apply hi _ l).trans (hhi l)
  by_cases h : c
  · simp only [if_pos h]
    exact congrArg (FloatOps.addf _) e2
  · simp only [if_neg h]
    exact congrArg (FloatOps.addf _) e1

/-! ## The steps -/

section Steps

variable (d : Dev nD) (i : grid0.Coords) (E : Set ℕ) {Q : Acc F → sProp (MM F)}

/-- One row's four sums read the row's eight lane groups. -/
theorem wp_rowStep {n : ℕ} (M : Memref sig .scVector .vmem (SN n) .f32) (o : Fin 8 → Fin 2 → ℕ) (h : ∀ g a, o g a + S1x16.size a ≤ (SN n).size a)
    {f : M.view.ty.Contents (Elt F)} {v : ℕ → ℕ → F .f32} (hv : Holds2 M f v) (k : ℕ)
    (ho : ∀ g : Fin 8, o g = ![k, ![0, 64, 16, 80, 32, 96, 48, 112] g]) (c : Prop) [Decidable c] (p : ℕ → F .f32) {q : PosShare TreeShare} :
    (M.view.loc (tid d i) ↦{q} f)
      ⊢ iprop(((M.view.loc (tid d i) ↦{q} f) -∗ Q (sums fun l => FloatOps.addf (p l) (if c then v k (64 + l) else v k l)))
        -∗ twp d i E (rowStep i M o h (if c then 1#1 else 0#1) (sums p)) Q) := by
  unfold rowStep lane16
  simp only [Prog.lift, bind, Prog.bind]
  iintro HM HQ
  iapply (wp_load 𝒱₀ (tid d i) none E (Finset.subset_univ _)) $$ HM; iintro HM
  iapply (wp_load 𝒱₀ (tid d i) none E (Finset.subset_univ _)) $$ HM; iintro HM
  iapply (wp_load 𝒱₀ (tid d i) none E (Finset.subset_univ _)) $$ HM; iintro HM
  iapply (wp_load 𝒱₀ (tid d i) none E (Finset.subset_univ _)) $$ HM; iintro HM
  iapply (wp_load 𝒱₀ (tid d i) none E (Finset.subset_univ _)) $$ HM; iintro HM
  iapply (wp_load 𝒱₀ (tid d i) none E (Finset.subset_univ _)) $$ HM; iintro HM
  iapply (wp_load 𝒱₀ (tid d i) none E (Finset.subset_univ _)) $$ HM; iintro HM
  iapply (wp_load 𝒱₀ (tid d i) none E (Finset.subset_univ _)) $$ HM; iintro HM
  have ld : ∀ (g : Fin 8) (l : Fin 16), M.view.readAt (Elt F) (Rect.unit (s := SN n) (o g) S1x16.size (h g)).toLoadRect f (ix2 (0 : Fin 1) l)
      = v k (![0, 64, 16, 80, 32, 96, 48, 112] g + l.val) := fun g l => hv.lanes (ho g) (h g) l
  have e0 := addHalf_eq c p 0 (sums p).1 (by funext x; exact congrArg p (Nat.zero_add _).symm) _ _ (v k) (fun l => v k (64 + l)) (ld 0)
    (fun l => (ld 1 l).trans (by show v k (64 + l.val) = v k (64 + (0 + l.val)); congr 1; omega))
  have e1 := addHalf_eq c p 16 (sums p).2.1 rfl _ _ (v k) (fun l => v k (64 + l)) (ld 2)
    (fun l => (ld 3 l).trans (by show v k (80 + l.val) = v k (64 + (16 + l.val)); congr 1; omega))
  have e2 := addHalf_eq c p 32 (sums p).2.2.1 rfl _ _ (v k) (fun l => v k (64 + l)) (ld 4)
    (fun l => (ld 5 l).trans (by show v k (96 + l.val) = v k (64 + (32 + l.val)); congr 1; omega))
  have e3 := addHalf_eq c p 48 (sums p).2.2.2 rfl _ _ (v k) (fun l => v k (64 + l)) (ld 6)
    (fun l => (ld 7 l).trans (by show v k (112 + l.val) = v k (64 + (48 + l.val)); congr 1; omega))
  simp only [Nat.zero_add] at e0
  have ee : _ = sums fun l => FloatOps.addf (p l) (if c then v k (64 + l) else v k l) := congrArg₂ Prod.mk e0 (congrArg₂ Prod.mk e1 (congrArg₂ Prod.mk e2 e3))
  iapply (le_wp_ret _ _ _ _ _)
  ihave HQ := HQ $$ HM
  iapply (Entails.of_eq (congrArg Q ee.symm))
  iexact HQ

/-- Row step `n` of a row's sum, over a buffer whose row `k` is the row the sum reads at item `s`. -/
theorem wp_item {n : ℕ} (M : Memref sig .scVector .vmem (SN n) .f32) (o : Fin 8 → Fin 2 → ℕ) (h : ∀ g a, o g a + S1x16.size a ≤ (SN n).size a)
    {f : M.view.ty.Contents (Elt F)} {v : ℕ → ℕ → F .f32} (hv : Holds2 M f v) (k : ℕ)
    (ho : ∀ g : Fin 8, o g = ![k, ![0, 64, 16, 80, 32, 96, 48, 112] g]) (w : ℕ → BitVec 32) (G : ℕ → ℕ → F .f32) (s : ℕ) (hk : v k = G s) (b : BitVec 1)
    (hb : b = if w s &&& 1#32 = 1#32 then 1#1 else 0#1) (a : Acc F) (ha : a = sums (psum w G s)) {q : PosShare TreeShare} :
    (M.view.loc (tid d i) ↦{q} f)
      ⊢ twp d i E (rowStep i M o h b a)
          fun a' => iprop(⌜a' = sums (psum w G (s + 1))⌝ ∗ (M.view.loc (tid d i) ↦{q} f)) := by
  subst hb ha
  iintro HM
  iapply (wp_rowStep d i E M o h hv k ho (w s &&& 1#32 = 1#32) (psum w G s)) $$ HM
  iintro HM
  isplitr
  · ipureintro; rw [hk]; rfl
  · iexact HM

/-- A block of sixteen row steps: the indices' low bits from row `row` of the index block, the rows from `k0` on. -/
theorem wp_block {n : ℕ} (I : Memref sig .scVector .vmem S128x256 .i32) (oI : Fin 2 → ℕ) (hI : ∀ a, oI a + S1x16.size a ≤ S128x256.size a)
    (M : Memref sig .scVector .vmem (SN n) .f32) (o : Fin 16 → Fin 8 → Fin 2 → ℕ) (h : ∀ r g a, o r g a + S1x16.size a ≤ (SN n).size a)
    {fI : I.view.ty.Contents (Elt F)} {X : ℕ → ℕ → BitVec 32} (hX : Holds2 I fI X) {f : M.view.ty.Contents (Elt F)} {v : ℕ → ℕ → F .f32} (hv : Holds2 M f v)
    (row k c : ℕ) (hoI : oI = ![row, c]) (ho : ∀ r g, o r g = ![k + r.val, ![0, 64, 16, 80, 32, 96, 48, 112] g]) (G : ℕ → ℕ → F .f32)
    (hk : ∀ r, r < 16 → v (k + r) = G (c + r)) (a : Acc F) (ha : a = sums (psum (X row) G c)) {q : PosShare TreeShare} :
    iprop((I.view.loc (tid d i) ↦{fullShare} fI) ∗ (M.view.loc (tid d i) ↦{q} f))
      ⊢ twp d i E (block i I oI hI M o h a)
          fun a' => iprop(⌜a' = sums (psum (X row) G (c + 16))⌝ ∗ (I.view.loc (tid d i) ↦{fullShare} fI) ∗ (M.view.loc (tid d i) ↦{q} f)) := by
  unfold block
  simp only [Prog.lift, bind, Prog.bind]
  iintro ⟨HI, HM⟩
  iapply (wp_load 𝒱₀ (tid d i) none E (Finset.subset_univ _)) $$ HI; iintro HI
  have hw : ∀ r : Fin 16, I.view.readAt (Elt F) (Rect.unit (s := S128x256) oI S1x16.size hI).toLoadRect fI (ix2 (0 : Fin 1) r) = X row (c + r.val) :=
    fun r => hX.lanes hoI hI r
  have hl := Scf.wp_forFrom frame (wpE (defs₀ (F := F)) 𝒱₀ (tid d i) none) E
    (fun r a => rowStep i M (o r) (h r) (oddAt (parities (I.view.readAt (Elt F) (Rect.unit (s := S128x256) oI S1x16.size hI).toLoadRect fI)) r) a)
    (fun r a => iprop(⌜a = sums (psum (X row) G (c + r))⌝ ∗ (M.view.loc (tid d i) ↦{q} f)))
    (fun r a => by
      iintro ⟨%ha, HM⟩
      iapply (wp_item d i E M (o r) (h r) hv (k + r.val) (ho r) (X row) G (c + r.val) (hk _ r.isLt) _ ((oddAt_parities _ r).trans (by rw [hw r])) a ha) $$ HM)
    (Q := fun a' => iprop(⌜a' = sums (psum (X row) G (c + 16))⌝ ∗ (I.view.loc (tid d i) ↦{fullShare} fI) ∗ (M.view.loc (tid d i) ↦{q} f)))
    0 (Nat.zero_le _) a
  rw [List.drop_zero] at hl
  iapply hl
  isplitl [HM]
  · isplitr
    · ipureintro; exact ha
    · iexact HM
  · iintro %a' ⟨%e, HM⟩
    isplitr
    · ipureintro; exact e
    · isplitl [HI] <;> iassumption

/-- The blocks of a loop, from item `c` on. -/
theorem wp_blocks {n : ℕ} (l : Scf.Loop 32) (hok : l.OK) (I : Memref sig .scVector .vmem S128x256 .i32) (M : Memref sig .scVector .vmem (SN n) .f32)
    (oI : Fin l.trips → Fin 2 → ℕ) (hI : ∀ k a, oI k a + S1x16.size a ≤ S128x256.size a) (o : Fin l.trips → Fin 16 → Fin 8 → Fin 2 → ℕ)
    (h : ∀ k r g a, o k r g a + S1x16.size a ≤ (SN n).size a)
    {fI : I.view.ty.Contents (Elt F)} {X : ℕ → ℕ → BitVec 32} (hX : Holds2 I fI X) {f : M.view.ty.Contents (Elt F)} {v : ℕ → ℕ → F .f32} (hv : Holds2 M f v)
    (row c : ℕ) (hoI : ∀ k, oI k = ![row, 16 * k.val + c]) (ho : ∀ k r g, o k r g = ![16 * k.val + r.val, ![0, 64, 16, 80, 32, 96, 48, 112] g]) (G : ℕ → ℕ → F .f32)
    (hk : ∀ k, k < 16 * l.trips → v k = G (c + k)) (a : Acc F) (ha : a = sums (psum (X row) G c)) {q : PosShare TreeShare} :
    iprop((I.view.loc (tid d i) ↦{fullShare} fI) ∗ (M.view.loc (tid d i) ↦{q} f))
      ⊢ twp d i E (Scf.Loop.for l hok a fun k a => block i I (oI k) (hI k) M (o k) (h k) a)
          fun a' => iprop(⌜a' = sums (psum (X row) G (c + 16 * l.trips))⌝ ∗ (I.view.loc (tid d i) ↦{fullShare} fI) ∗ (M.view.loc (tid d i) ↦{q} f)) := by
  refine BIBase.Entails.trans ?_ (Scf.wp_for frame (wpE (defs₀ (F := F)) 𝒱₀ (tid d i) none) E l.lb l.ub l.st hok a
    (fun k a => block i I (oI k) (hI k) M (o k) (h k) a)
    (fun k a => iprop(⌜a = sums (psum (X row) G (c + 16 * k))⌝ ∗ (I.view.loc (tid d i) ↦{fullShare} fI) ∗ (M.view.loc (tid d i) ↦{q} f))) ?_)
  · iintro H
    isplitl [H]
    · isplitr
      · ipureintro; exact ha
      · iexact H
    · iintro %a' H; iexact H
  · intro k a'
    iintro ⟨%ha', H⟩
    have hb := wp_block d i E I (oI k) (hI k) M (o k) (h k) hX hv row (16 * k.val) (c + 16 * k.val) ((hoI k).trans (by rw [Nat.add_comm])) (ho k) G
      (fun r hr => (hk _ (by have : k.val < l.trips := k.isLt; omega)).trans (by rw [Nat.add_assoc])) a' ha' (q := q)
    rw [show c + 16 * (k.val + 1) = c + 16 * k.val + 16 by omega]
    iapply hb $$ H

/-- The last eight row steps: the indices' low bits from columns `192` on, the rows `80` to `87` of the second buffer. -/
theorem wp_tail (B : Memref sig .scVector .vmem (SN 88) .f32) {f : B.view.ty.Contents (Elt F)} {v : ℕ → ℕ → F .f32} (hv : Holds2 B f v)
    (w : ℕ → BitVec 32) (G : ℕ → ℕ → F .f32) (hk : ∀ r, r < 8 → v (80 + r) = G (192 + r)) (x : Vec F S1x16 .i32)
    (hx : ∀ r : Fin 16, x (ix2 (0 : Fin 1) r) = w (192 + r.val)) (a : Acc F) (ha : a = sums (psum w G 192)) {q : PosShare TreeShare} :
    (B.view.loc (tid d i) ↦{q} f)
      ⊢ twp d i E (Scf.forFrom (fun (r : Fin 8) a => rowStep i B (offTail r) (offTail_inb r) (oddAt (parities x) (r.castLE (by decide))) a) (List.finRange 8) a)
          fun a' => iprop(⌜a' = sums (psum w G 200)⌝ ∗ (B.view.loc (tid d i) ↦{q} f)) := by
  have hl := Scf.wp_forFrom frame (wpE (defs₀ (F := F)) 𝒱₀ (tid d i) none) E
    (fun (r : Fin 8) a => rowStep i B (offTail r) (offTail_inb r) (oddAt (parities x) (r.castLE (by decide))) a)
    (fun r a => iprop(⌜a = sums (psum w G (192 + r))⌝ ∗ (B.view.loc (tid d i) ↦{q} f)))
    (fun r a => by
      iintro ⟨%ha, HM⟩
      iapply (wp_item d i E B (offTail r) (offTail_inb r) hv (80 + r.val) (fun _ => rfl) w G (192 + r.val) (hk _ r.isLt) _ ((oddAt_parities x _).trans (by rw [hx]; rfl)) a ha) $$ HM)
    (Q := fun a' => iprop(⌜a' = sums (psum w G 200)⌝ ∗ (B.view.loc (tid d i) ↦{q} f)))
    0 (Nat.zero_le _) a
  rw [List.drop_zero] at hl
  iintro HM
  iapply hl
  isplitl [HM]
  · isplitr
    · ipureintro; exact ha
    · iexact HM
  · iintro %a' H; iexact H

end Steps

/-! ## The lists of row numbers and the stores of the sums -/

section Stores

variable (d : Dev nD) (i : grid0.Coords) (E : Set ℕ)

/-- The first `n` words of a list are the halves of `w`. -/
def Listed {m : ℕ} (L : Memref sig .scVector .vmem ⟨1, ![m]⟩ .i32) (f : L.view.ty.Contents (Elt F)) (w : ℕ → BitVec 32) (n : ℕ) : Prop :=
  ∀ x, (x 0).val < n → L.view.read (Elt F) f x = half (w (x 0).val)

theorem halved (v : Vec F S1x16 .i32) (l : Fin 16) : k0_pay384 (F := F) v (ix1 l) = half (v (ix2 (0 : Fin 1) l)) := by
  have h : shapeCast S16 v shapeCasts_S1x16_S16 (ix1 l) = v (ix2 (0 : Fin 1) l) := shapeCast_1a_a_apply v _ l
  rw [← h]
  unfold k0_pay384
  rw [shapeCast_self]
  rfl

/-- A trip lists sixteen more. -/
theorem wp_halve (I : Memref sig .scVector .vmem S128x256 .i32) (oI : Fin 2 → ℕ) (hI : ∀ a, oI a + S1x16.size a ≤ S128x256.size a)
    (L : Memref sig .scVector .vmem S256 .i32) (oL : Fin 1 → ℕ) (hL : ∀ a, oL a + S16.size a ≤ S256.size a)
    {fI : I.view.ty.Contents (Elt F)} {X : ℕ → ℕ → BitVec 32} (hX : Holds2 I fI X) (row c : ℕ) (hoI : oI = ![row, c]) (hoL : oL = ![c]) :
    iprop((I.view.loc (tid d i) ↦{fullShare} fI) ∗ (∃ f, ⌜Listed L f (X row) c⌝ ∗ (L.view.loc (tid d i) ↦{fullShare} f)))
      ⊢ twp d i E (halve i I oI hI L oL hL)
          fun _ => iprop((I.view.loc (tid d i) ↦{fullShare} fI) ∗ (∃ f, ⌜Listed L f (X row) (c + 16)⌝ ∗ (L.view.loc (tid d i) ↦{fullShare} f))) := by
  unfold halve
  simp only [Prog.lift, bind, Prog.bind]
  iintro ⟨HI, %f, %hf, HL⟩
  iapply (wp_load 𝒱₀ (tid d i) none E (Finset.subset_univ _)) $$ HI; iintro HI
  iapply (wp_load 𝒱₀ (tid d i) none E (Finset.subset_univ _)) $$ HL; iintro HL
  iapply (wp_store_writes₀ 𝒱₀ (tid d i) none E (m := L) (r := Rect.unit (s := S256) oL S16.size hL) (S := Finset.univ) (f := f) (Finset.subset_univ _)) $$ HL; iintro HL
  iapply (le_wp_ret _ _ _ _ _)
  isplitl [HI]; · iexact HI
  iexists _
  isplitr
  swap; · iexact HL
  ipureintro
  intro x hx
  by_cases hc : (x 0).val < c
  · exact (View.read_writes_cons_unit_of_not_mem L.view f hL _ [] x hoL 0 (Or.inl hc)).trans (hf x hc)
  · have hlt : (x 0).val - c < 16 := by omega
    refine (View.read_writes_cons_unit_of_mem L.view f hL _ [] x (ix1 ⟨(x 0).val - c, hlt⟩) hoL (fun a => ?_)).trans ?_
    · fin_cases a
      show (x 0).val = c + ((x 0).val - c)
      omega
    · refine (halved _ _).trans (congrArg half ((hX.lanes hoI hI _).trans (congrArg (X row) ?_)))
      show c + ((x 0).val - c) = _
      omega

/-- Thirteen trips list a row. -/
theorem wp_halves (l : Scf.Loop 32) (hok : l.OK) (hl : l.trips = 13) (I : Memref sig .scVector .vmem S128x256 .i32) (L : Memref sig .scVector .vmem S256 .i32)
    (oI : Fin l.trips → Fin 2 → ℕ) (hI : ∀ k a, oI k a + S1x16.size a ≤ S128x256.size a) (oL : Fin l.trips → Fin 1 → ℕ) (hL : ∀ k a, oL k a + S16.size a ≤ S256.size a)
    {fI : I.view.ty.Contents (Elt F)} {X : ℕ → ℕ → BitVec 32} (hX : Holds2 I fI X) (row : ℕ) (hoI : ∀ k, oI k = ![row, 16 * k.val]) (hoL : ∀ k, oL k = ![16 * k.val])
    (w₀ : BitVec 32) :
    iprop((I.view.loc (tid d i) ↦{fullShare} fI) ∗ (∃ f, (L.view.loc (tid d i) ↦{fullShare} f)))
      ⊢ twp d i E (Scf.Loop.for l hok w₀ fun k _ => halve i I (oI k) (hI k) L (oL k) (hL k))
          fun _ => iprop((I.view.loc (tid d i) ↦{fullShare} fI) ∗ (∃ f, ⌜Listed L f (X row) 200⌝ ∗ (L.view.loc (tid d i) ↦{fullShare} f))) := by
  refine BIBase.Entails.trans ?_ (Scf.wp_for frame (wpE (defs₀ (F := F)) 𝒱₀ (tid d i) none) E l.lb l.ub l.st hok w₀
    (fun k _ => halve i I (oI k) (hI k) L (oL k) (hL k))
    (fun k _ => iprop((I.view.loc (tid d i) ↦{fullShare} fI) ∗ (∃ f, ⌜Listed L f (X row) (16 * k)⌝ ∗ (L.view.loc (tid d i) ↦{fullShare} f)))) ?_)
  · iintro ⟨HI, %f, HL⟩
    isplitl [HI HL]
    · isplitl [HI]; · iexact HI
      iexists f
      isplitr
      · ipureintro; intro x hx; omega
      · iexact HL
    · iintro %a' ⟨HI, %f, %hf, HL⟩
      isplitl [HI]; · iexact HI
      iexists f
      isplitr
      · ipureintro
        intro x hx
        refine hf x ?_
        show _ < 16 * l.trips
        rw [hl]; omega
      · iexact HL
  · intro k a'
    rw [show 16 * (k.val + 1) = 16 * k.val + 16 by omega]
    exact wp_halve d i E I (oI k) (hI k) L (oL k) (hL k) hX row (16 * k.val) (hoI k) (hoL k)

/-- Sixteen lanes of row `r` from column `c` on stored. -/
theorem wp_put16 (O : Memref sig .scVector .vmem S128x128 .f32) (o : Fin 2 → ℕ) (h : ∀ a, o a + S1x16.size a ≤ S128x128.size a)
    (x : FVec F S1x16 .f32) (r c : ℕ) (ho : o = ![r, c]) (p : ℕ → F .f32) (hx : ∀ l : Fin 16, x (ix2 (0 : Fin 1) l) = p (c + l.val)) (v : ℕ → ℕ → F .f32) :
    iprop(∃ f, ⌜Holds2 O f v⌝ ∗ (O.view.loc (tid d i) ↦{fullShare} f))
      ⊢ twp d i E (put16 i O o h x) fun _ =>
        iprop(∃ f, ⌜Holds2 O f (fun a b => if a = r ∧ c ≤ b ∧ b < c + 16 then p b else v a b)⌝ ∗ (O.view.loc (tid d i) ↦{fullShare} f)) := by
  unfold put16
  simp only [Prog.lift, bind, Prog.bind]
  iintro ⟨%f, %hf, HO⟩
  iapply (wp_load 𝒱₀ (tid d i) none E (Finset.subset_univ _)) $$ HO; iintro HO
  iapply (wp_store_writes₀ 𝒱₀ (tid d i) none E (m := O) (r := Rect.unit (s := S128x128) o S1x16.size h) (S := Finset.univ) (f := f) (Finset.subset_univ _)) $$ HO; iintro HO
  iapply (le_wp_ret _ _ _ _ _)
  iexists _
  isplitr
  swap; · iexact HO
  ipureintro
  intro y
  dsimp only
  by_cases hr : (y 0).val = r
  · by_cases hc : c ≤ (y 1).val ∧ (y 1).val < c + 16
    · rw [if_pos ⟨hr, hc⟩]
      have hlt : (y 1).val - c < 16 := by omega
      refine (View.read_writes_cons_unit_of_mem O.view f h _ [] y (ix2 (0 : Fin 1) ⟨(y 1).val - c, hlt⟩) ho (fun a => ?_)).trans ?_
      · fin_cases a
        · exact hr
        · show (y 1).val = c + ((y 1).val - c)
          omega
      · refine (hx _).trans (congrArg p ?_)
        show c + ((y 1).val - c) = _
        omega
    · rw [if_neg (fun e => hc e.2)]
      refine (View.read_writes_cons_unit_of_not_mem O.view f h _ [] y ho 1 ?_).trans (hf y)
      show (y 1).val < c ∨ c + 16 ≤ (y 1).val
      omega
  · rw [if_neg (fun e => hr e.1)]
    refine (View.read_writes_cons_unit_of_not_mem O.view f h _ [] y ho 0 ?_).trans (hf y)
    show (y 0).val < r ∨ r + 1 ≤ (y 0).val
    omega

end Stores

end Cert.Proof.KernelIdeal

end
-- ==== Proof.Gather.lean ====
/-
  The gathers of a row and the row they feed. A slot is two buffers of gathered rows, a list of row numbers, two DMA
  semaphores and two read shares of the table. `Idle` holds the slot at rest; `Busy` holds the two gathers of a row's
  table rows on their way, each of which delivers its buffer at the rows the list names, its share of the table and its
  half of the list. A row's task takes `Busy` to `Idle` and stores the row's sums.
-/
module

public import proofs.«01_k».proof.Proof.Sums

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The table rows that the indices `w` name, by item and lane. -/
def rowsOf (Tv : ℕ → ℕ → F .f32) (w : ℕ → BitVec 32) (s l : ℕ) : F .f32 := Tv (half (w s)).toNat l

/-- What a gather delivers, by coordinates: row `k` is the table's row that word `k` of the list names. -/
theorem gathered {n : ℕ} (D : Memref sig .scVector .vmem (SN n) .f32) (hg : S500000x128.Gathers 0 (SN n)) {g : S500000x128.Idx → F .f32} {Tv : ℕ → ℕ → F .f32}
    (hT : ∀ x, g x = Tv (x 0).val (x 1).val) (c : (⟨1, ![n]⟩ : Shape).Idx → BitVec 32) (hn : (⟨1, ![n]⟩ : Shape).numel = (SN n).size hg.axis')
    (hin : ∀ x, (c x).toNat < S500000x128.size hg.axis) (w : ℕ → BitVec 32) (hc : ∀ x, c x = half (w (x 0).val)) (fd : D.view.ty.Contents (Elt F)) :
    Holds2 D (D.view.write (Elt F) fd (SparseCore.gatherPayload (F := F) (e := .f32) hg g (SparseCore.rows (F := F) c hn hin)) Finset.univ) (rowsOf Tv w) := by
  intro x
  rw [View.read_write_univ]
  unfold SparseCore.gatherPayload
  rw [hT]
  unfold rowsOf
  have e0 : (hg.idx (SparseCore.rows (F := F) c hn hin) x 0).val = (half (w (x 0).val)).toNat := by
    refine (congrArg Fin.val (hg.idx_axis (SparseCore.rows (F := F) c hn hin) x)).trans ?_
    show (c _).toNat = _
    rw [hc]
    refine congrArg (fun k => (half (w k)).toNat) ?_
    refine (Shape.rowMajor_val_one _).symm.trans ?_
    rw [Equiv.apply_symm_apply]
    rfl
  have e1 : (hg.idx (SparseCore.rows (F := F) c hn hin) x 1).val = (x 1).val := hg.idx_of_ne _ x 1 (by decide)
  rw [e0, e1]

/-- A triple at the head of a program. -/
theorem twp_bind {d : Dev nD} {i : grid0.Coords} {E : Set ℕ} {α β : Type} {p : TProg F i α} {P : sProp (MM F)} {R : α → sProp (MM F)} (h : P ⊢ twp d i E p R)
    {k : α → TProg F i β} {Q : β → sProp (MM F)} : P ⊢ iprop((∀ a, R a -∗ twp d i E (k a) Q) -∗ twp d i E (p >>= k) Q) := by
  show P ⊢ iprop((∀ a, R a -∗ twp d i E (k a) Q) -∗ wp frame (wpE (defs₀ (F := F)) 𝒱₀ (tid d i) none) E (p >>= k) Q)
  rw [wp_bind]
  exact h.trans (wp_wand _ _ _)

theorem sum16 (p : ℕ → F .f32) (o : ℕ) (l : Fin 16) (y : FVec F S16 .f32) (hy : y = fun x => p (o + (x 0).val)) :
    (shapeCast S1x16 y shapeCasts_S16_S1x16 : FVec F S1x16 .f32) (ix2 (0 : Fin 1) l) = p (o + l.val) := by
  subst hy
  exact shapeCast_a_1a_apply _ _ 0 l

section Slot

variable (d : Dev nD) (i : grid0.Coords) (T : Memref sig .scVector .hbm S500000x128 .f32) (fT : T.view.ty.Contents (Elt F))
  {Tv : ℕ → ℕ → F .f32}

/-- A gather on its way. -/
def Coming (q : PosShare TreeShare) {n : ℕ} (D : Memref sig .scVector .vmem (SN n) .f32) (s : DmaSems sig S_) (L : Memref sig .scVector .vmem S256 .i32)
    (fL : L.view.ty.Contents (Elt F)) (qL : PosShare TreeShare) (v : ℕ → ℕ → F .f32) : sProp (MM F) :=
  Transfers.Flight countersEmb (tid d i) (.dma s.sem) none D.view.dmaCredit
    iprop((∃ f, ⌜Holds2 D f v⌝ ∗ (D.view.loc (tid d i) ↦{fullShare} f)) ∗ (T.view.loc (tid d i) ↦{q} fT) ∗ (L.view.loc (tid d i) ↦{qL} fL))

/-- A gather started. -/
theorem wp_gather (hT : Holds2 T fT Tv) {q qL : PosShare TreeShare} {n : ℕ} (D : Memref sig .scVector .vmem (SN n) .f32) (s : DmaSems sig S_)
    (L : Memref sig .scVector .vmem S256 .i32) (fL : L.view.ty.Contents (Elt F)) (w : ℕ → BitVec 32) (hL : Listed L fL w 200) (hw : ∀ s, s < 200 → (half (w s)).toNat < 500000)
    (c : ℕ) (hcn : c + n ≤ 200) (o : Fin 1 → ℕ) (ho : o = ![c]) (hinb : ∀ a, o a + (⟨1, ![n]⟩ : Shape).size a ≤ S256.size a)
    (hg : S500000x128.Gathers 0 (SN n)) (hn : (⟨1, ![n]⟩ : Shape).numel = (SN n).size hg.axis') (hpos : 0 < (SN n).numel)
    (hN : ∑ j, (D.slice ((SN n).rowRect hg.axis' j) ((SN n).stride_rowRect hg.axis' j)).view.dmaCredit = D.view.dmaCredit)
    {hp : (tid d i).2.kind = .scVector} {hsrc : (tbl T).view.WordExact} {he : EltTy.f32.bits = 32} {hsp : Space.hbm = .hbm ∨ Space.hbm = .shared} {hr : S500000x128.StreamRows 0}
    {α : Type} {k : PUnit → TProg F i α} {Q : α → sProp (MM F)} :
    iprop((T.view.loc (tid d i) ↦{q} fT) ∗ (∃ f, (D.view.loc (tid d i) ↦{fullShare} f)) ∗ (L.view.loc (tid d i) ↦{qL} fL) ∗ semVal (tid d i, SemLoc.dma s.sem) 0)
      ⊢ iprop((Coming d i T fT q D s L fL qL (fun k => rowsOf Tv w (c + k)) -∗ twp d i Set.univ (k ⟨⟩) Q)
        -∗ twp d i Set.univ (SparseCore.enqueueIndirectGather hp (tbl T) D hg (L.slice (Rect.unit (s := S256) o (⟨1, ![n]⟩ : Shape).size hinb) (fun _ => rfl)) hn s.sem hsrc he hsp hr >>= k) Q) := by
  iintro ⟨HT, ⟨%fd, HD⟩, HL, Hs⟩ Hk
  have hc : ∀ x, (L.slice (Rect.unit (s := S256) o (⟨1, ![n]⟩ : Shape).size hinb) (fun _ => rfl)).view.read (Elt F) fL x = half (w (c + (x 0).val)) := by
    intro x
    subst ho
    have hx := (x 0).isLt
    have hx' : (x 0).val < n := hx
    have e : (((Rect.unit (s := S256) ![c] (⟨1, ![n]⟩ : Shape).size hinb).emb x) 0).val = c + (x 0).val := by
      show c + 1 * (x 0).val = _
      omega
    refine (hL _ (by rw [e]; omega)).trans ?_
    rw [e]
  have hT' : ∀ x, (tbl T).view.read (Elt F) fT x = Tv (x 0).val (x 1).val := by
    intro x
    refine (hT _).trans ?_
    congr 1
    · show 0 + 1 * (x 0).val = _
      omega
    · show 0 + 1 * (x 1).val = _
      omega
  have hin : ∀ x, ((L.slice (Rect.unit (s := S256) o (⟨1, ![n]⟩ : Shape).size hinb) (fun _ => rfl)).view.read (Elt F) fL x).toNat < S500000x128.size hg.axis := by
    intro x
    rw [hc]
    have hx : (x 0).val < n := (x 0).isLt
    exact hw _ (by omega)
  iapply (SparseCore.wp_gatherFromWhole countersEmb 𝒱₀ (tid d i) none (src := tbl T) (dst := D) (hg := hg) (hn := hn) (offs := L.slice (Rect.unit (s := S256) o (⟨1, ![n]⟩ : Shape).size hinb) (fun _ => rfl)) (q := q) (qo := qL) (fs := fT) (fd := fd) (fo := fL)
    none D.view.dmaCredit hN hpos hin) $$ [HT HD HL Hs]
  · isplitl [HT]; · iexact HT
    isplitl [HD]; · iexact HD
    isplitl [HL]; · iexact HL
    iexact Hs
  iintro Hf
  iapply Hk
  unfold Coming
  iapply (Transfers.Flight_mono countersEmb (tid d i) ?_) $$ Hf
  iintro ⟨HD, HT, HL⟩
  isplitl [HD]
  · iexists _
    isplitr
    swap; · iexact HD
    ipureintro
    exact gathered D hg hT' _ hn hin (fun k => w (c + k)) hc fd
  · isplitl [HT] <;> iassumption

variable (A : Memref sig .scVector .vmem S112x128 .f32) (B : Memref sig .scVector .vmem S88x128 .f32) (L : Memref sig .scVector .vmem S256 .i32)
  (sA sB : DmaSems sig S_) (qA qB : PosShare TreeShare)

/-- A slot at rest, its list apart; -/
def Idle : sProp (MM F) :=
  iprop((∃ f, (A.view.loc (tid d i) ↦{fullShare} f)) ∗ (∃ f, (B.view.loc (tid d i) ↦{fullShare} f)) ∗ (T.view.loc (tid d i) ↦{qA} fT) ∗ (T.view.loc (tid d i) ↦{qB} fT)
    ∗ semVal (tid d i, SemLoc.dma sA.sem) 0 ∗ semVal (tid d i, SemLoc.dma sB.sem) 0)

/-- and with the gathers of the table rows that `w` names on their way. -/
def Busy (Tv : ℕ → ℕ → F .f32) (w : ℕ → BitVec 32) : sProp (MM F) :=
  iprop(∃ fL, Coming d i T fT qA (n := 112) A sA L fL fullShare.left (rowsOf Tv w)
    ∗ Coming d i T fT qB (n := 88) B sB L fL fullShare.right (fun k => rowsOf Tv w (112 + k)))

/-- A list being there. -/
abbrev Free : sProp (MM F) := iprop(∃ f, (L.view.loc (tid d i) ↦{fullShare} f))

/-- A list of the halves of `w`. -/
abbrev Full (w : ℕ → BitVec 32) : sProp (MM F) := iprop(∃ f, ⌜Listed L f w 200⌝ ∗ (L.view.loc (tid d i) ↦{fullShare} f))

/-- A gather's credits are its buffer's. -/
def Credits : Prop :=
  (∀ h : S500000x128.Gathers 0 (SN 112), ∑ j, (A.slice ((SN 112).rowRect h.axis' j) ((SN 112).stride_rowRect h.axis' j)).view.dmaCredit = A.view.dmaCredit)
    ∧ ∀ h : S500000x128.Gathers 0 (SN 88), ∑ j, (B.slice ((SN 88).rowRect h.axis' j) ((SN 88).stride_rowRect h.axis' j)).view.dmaCredit = B.view.dmaCredit

/-- Both gathers of a row started. -/
theorem wp_fires (hT : Holds2 T fT Tv) (hN : Credits A B) (w : ℕ → BitVec 32) (hw : ∀ s, s < 200 → (half (w s)).toNat < 500000)
    {α : Type} {k : TProg F i α} {Q : α → sProp (MM F)} :
    iprop(Idle d i T fT A B sA sB qA qB ∗ Full d i L w)
      ⊢ iprop((Busy d i T fT A B L sA sB qA qB Tv w -∗ twp d i Set.univ k Q)
        -∗ twp d i Set.univ (fireA i T L A sA >>= fun _ => fireB i T L B sB >>= fun _ => k) Q) := by
  unfold Idle Full Busy fireA fireB
  iintro ⟨⟨HA, HB, HTA, HTB, HsA, HsB⟩, %fL, %hL, HL⟩ Hk
  ihave ⟨HL1, HL2⟩ := (pointsTo_share (PosShare.mem_left_op_right fullShare)).1 $$ HL
  iapply (wp_gather d i T fT hT A sA L fL w hL hw 0 (by omega) ![0] rfl inb_S256_S112_0 gathers_S500000x128_S112x128 rfl (by decide) (hN.1 _)) $$ [HTA HA HL1 HsA]
  · isplitl [HTA]; · iexact HTA
    isplitl [HA]; · iexact HA
    isplitl [HL1]; · iexact HL1
    iexact HsA
  iintro HcA
  iapply (wp_gather d i T fT hT B sB L fL w hL hw 112 (by omega) ![112] rfl inb_S256_S88_112 gathers_S500000x128_S88x128 rfl (by decide) (hN.2 _)) $$ [HTB HB HL2 HsB]
  · isplitl [HTB]; · iexact HTB
    isplitl [HB]; · iexact HB
    isplitl [HL2]; · iexact HL2
    iexact HsB
  iintro HcB
  iapply Hk
  iexists fL
  simp only [Nat.zero_add]
  isplitl [HcA] <;> iassumption

/-- The waits recorded so far are the launch's own and the kernel's. -/
abbrev Owes (O : CellTallies nD τ sig (HIx 1)) (W : Waits sig (HIx 1)) : sProp (MM F) :=
  iprop(∃ W', ⌜∀ p ∈ W', p ∈ W ∨ p.2 = none⌝ ∗ owes (tid d i) O W')

/-- One gather waited for. -/
theorem wp_arrive {q qL : PosShare TreeShare} {n : ℕ} (D : Memref sig .scVector .vmem (SN n) .f32) (s : DmaSems sig S_) (fL : L.view.ty.Contents (Elt F))
    (v : ℕ → ℕ → F .f32) (O : CellTallies nD τ sig (HIx 1)) (W : Waits sig (HIx 1)) {hsrc : (tbl T).view.WordExact} {hdst : D.view.WordExact}
    {α : Type} {k : PUnit → TProg F i α} {Q : α → sProp (MM F)} :
    iprop(Transfers.MayWaits (tid d i) (none : HIx 1) O ∗ Coming d i T fT q D s L fL qL v ∗ Owes d i O W)
      ⊢ iprop((((∃ f, ⌜Holds2 D f v⌝ ∗ (D.view.loc (tid d i) ↦{fullShare} f)) ∗ (T.view.loc (tid d i) ↦{q} fT) ∗ (L.view.loc (tid d i) ↦{qL} fL)
          ∗ semVal (tid d i, SemLoc.dma s.sem) 0 ∗ Owes d i O W) -∗ twp d i Set.univ (k ⟨⟩) Q)
        -∗ twp d i Set.univ (SparseCore.waitIndirectGather s.sem (tbl T) D hsrc hdst >>= k) Q) := by
  iintro ⟨Hm, Hc, %W', %hW', HO⟩ Hk
  unfold Coming
  iapply (Transfers.wp_waitLocalO countersEmb 𝒱₀ (tid d i) none (none : HIx 1) (rfl : D.view.dmaCredit = _)) $$ [Hm Hc HO]
  · isplitl [Hc]; · iexact Hc
    isplitl [HO]; · iexact HO
    iapply (Transfers.MayWaits.elim (SemLoc.dma s.sem)) $$ Hm
  iintro ⟨⟨HD, HT, HL⟩, Hs, HO⟩
  iapply Hk
  isplitl [HD]; · iexact HD
  isplitl [HT]; · iexact HT
  isplitl [HL]; · iexact HL
  isplitl [Hs]; · iexact Hs
  iexists _
  isplitr
  swap; · iexact HO
  ipureintro
  intro p hp
  rcases Finset.mem_insert.mp hp with hp | hp
  · exact .inr (hp ▸ rfl)
  · exact hW' p hp

/-- A row's four lane groups stored. -/
theorem wp_puts (Out : Memref sig .scVector .vmem S128x128 .f32) (oO : Fin 4 → Fin 2 → ℕ) (hO : ∀ g a, oO g a + S1x16.size a ≤ S128x128.size a) (row : ℕ)
    (hoO : ∀ g, oO g = ![row, 16 * g.val]) (p : ℕ → F .f32) (a : Acc F) (ha : a = sums p) (v : ℕ → ℕ → F .f32) {α : Type} {k : TProg F i α} {Q : α → sProp (MM F)} :
    iprop(∃ f, ⌜Holds2 Out f v⌝ ∗ (Out.view.loc (tid d i) ↦{fullShare} f))
      ⊢ iprop(((∃ f, ⌜Holds2 Out f (fun a b => if a = row ∧ b < 64 then p b else v a b)⌝ ∗ (Out.view.loc (tid d i) ↦{fullShare} f)) -∗ twp d i Set.univ k Q)
        -∗ twp d i Set.univ (do
            put16 i Out (oO 0) (hO 0) (shapeCast S1x16 a.1 shapeCasts_S16_S1x16)
            put16 i Out (oO 1) (hO 1) (shapeCast S1x16 a.2.1 shapeCasts_S16_S1x16)
            put16 i Out (oO 2) (hO 2) (shapeCast S1x16 a.2.2.1 shapeCasts_S16_S1x16)
            put16 i Out (oO 3) (hO 3) (shapeCast S1x16 a.2.2.2 shapeCasts_S16_S1x16)
            k) Q) := by
  have h0 := wp_put16 d i Set.univ Out (oO 0) (hO 0) (shapeCast S1x16 a.1 shapeCasts_S16_S1x16) row 0 (hoO 0) p
    (fun l => sum16 p 0 l a.1 (by rw [ha]; funext x; exact congrArg p (Nat.zero_add _).symm)) v
  have h1 := wp_put16 d i Set.univ Out (oO 1) (hO 1) (shapeCast S1x16 a.2.1 shapeCasts_S16_S1x16) row 16 (hoO 1) p
    (fun l => sum16 p 16 l a.2.1 (by rw [ha]; rfl))
  have h2 := wp_put16 d i Set.univ Out (oO 2) (hO 2) (shapeCast S1x16 a.2.2.1 shapeCasts_S16_S1x16) row 32 (hoO 2) p
    (fun l => sum16 p 32 l a.2.2.1 (by rw [ha]; rfl))
  have h3 := wp_put16 d i Set.univ Out (oO 3) (hO 3) (shapeCast S1x16 a.2.2.2 shapeCasts_S16_S1x16) row 48 (hoO 3) p
    (fun l => sum16 p 48 l a.2.2.2 (by rw [ha]; rfl))
  iintro HO Hk
  iapply (twp_bind h0) $$ HO
  iintro %_ HO
  iapply (twp_bind (h1 _)) $$ HO
  iintro %_ HO
  iapply (twp_bind (h2 _)) $$ HO
  iintro %_ HO
  iapply (twp_bind (h3 _)) $$ HO
  iintro %_ ⟨%fO, %hfO, HO⟩
  iapply Hk
  iexists fO
  isplitr
  swap; · iexact HO
  ipureintro
  intro x
  refine (hfO x).trans ?_
  dsimp only
  by_cases hr : (x 0).val = row
  · by_cases h1 : (x 1).val < 64
    · rw [if_pos (c := (x 0).val = row ∧ (x 1).val < 64) ⟨hr, h1⟩]
      split_ifs <;> first | rfl | omega
    · rw [if_neg (c := (x 0).val = row ∧ (x 1).val < 64) (fun e => h1 e.2)]
      split_ifs <;> first | rfl | omega
  · rw [if_neg (c := (x 0).val = row ∧ (x 1).val < 64) (fun e => hr e.1)]
    split_ifs <;> first | rfl | omega

/-- A row: its gathers awaited, its sums stored. -/
theorem wp_rowTask (I : Memref sig .scVector .vmem S128x256 .i32) {fI : I.view.ty.Contents (Elt F)} {X : ℕ → ℕ → BitVec 32} (hX : Holds2 I fI X)
    (hA : A.IsWhole) (hB : B.IsWhole) (Out : Memref sig .scVector .vmem S128x128 .f32) (LA LB : Acc F → TProg F i (Acc F)) (row : ℕ)
    (hLA : ∀ f, Holds2 (n := 112) A f (rowsOf Tv (X row)) → ∀ a, a = sums (psum (X row) (rowsOf Tv (X row)) 0) →
      iprop((I.view.loc (tid d i) ↦{fullShare} fI) ∗ (A.view.loc (tid d i) ↦{fullShare} f))
        ⊢ twp d i Set.univ (LA a) fun a' => iprop(⌜a' = sums (psum (X row) (rowsOf Tv (X row)) 112)⌝ ∗ (I.view.loc (tid d i) ↦{fullShare} fI) ∗ (A.view.loc (tid d i) ↦{fullShare} f)))
    (hLB : ∀ f, Holds2 (n := 88) B f (fun k => rowsOf Tv (X row) (112 + k)) → ∀ a, a = sums (psum (X row) (rowsOf Tv (X row)) 112) →
      iprop((I.view.loc (tid d i) ↦{fullShare} fI) ∗ (B.view.loc (tid d i) ↦{fullShare} f))
        ⊢ twp d i Set.univ (LB a) fun a' => iprop(⌜a' = sums (psum (X row) (rowsOf Tv (X row)) 192)⌝ ∗ (I.view.loc (tid d i) ↦{fullShare} fI) ∗ (B.view.loc (tid d i) ↦{fullShare} f)))
    (oI : Fin 2 → ℕ) (hI : ∀ a, oI a + S1x16.size a ≤ S128x256.size a) (hoI : oI = ![row, 192])
    (oO : Fin 4 → Fin 2 → ℕ) (hO : ∀ g a, oO g a + S1x16.size a ≤ S128x128.size a) (hoO : ∀ g, oO g = ![row, 16 * g.val])
    (v : ℕ → ℕ → F .f32) (O : CellTallies nD τ sig (HIx 1)) (W : Waits sig (HIx 1)) {α : Type} {k : TProg F i α} {Q : α → sProp (MM F)} :
    iprop(Transfers.MayWaits (tid d i) (none : HIx 1) O ∗ Busy d i T fT A B L sA sB qA qB Tv (X row) ∗ (I.view.loc (tid d i) ↦{fullShare} fI)
        ∗ (∃ f, ⌜Holds2 Out f v⌝ ∗ (Out.view.loc (tid d i) ↦{fullShare} f)) ∗ Owes d i O W)
      ⊢ iprop(((Idle d i T fT A B sA sB qA qB ∗ Free d i L ∗ (I.view.loc (tid d i) ↦{fullShare} fI)
          ∗ (∃ f, ⌜Holds2 Out f (fun a b => if a = row ∧ b < 64 then psum (X row) (rowsOf Tv (X row)) 200 b else v a b)⌝ ∗ (Out.view.loc (tid d i) ↦{fullShare} f))
          ∗ Owes d i O W) -∗ twp d i Set.univ k Q)
        -∗ twp d i Set.univ (rowTask i T I A hA B hB Out sA sB LA LB oI hI oO hO >>= fun _ => k) Q) := by
  unfold rowTask Busy Idle
  simp only [bind_assoc]
  iintro ⟨#Hm, ⟨%fL, HcA, HcB⟩, HI, HO, HW⟩ Hk
  iapply (wp_arrive d i T fT L (n := 112) A sA fL _ O W) $$ [HcA HW]
  · isplitr; · iexact Hm
    isplitl [HcA] <;> iassumption
  iintro ⟨⟨%fA, %hfA, HA⟩, HTA, HL1, HsA, HW⟩
  iapply (twp_bind (hLA fA hfA _ (sums_zero _ _))) $$ [HI HA]
  · isplitl [HI] <;> iassumption
  iintro %a1 ⟨%ha1, HI, HA⟩
  iapply (wp_arrive d i T fT L (n := 88) B sB fL _ O W) $$ [HcB HW]
  · isplitr; · iexact Hm
    isplitl [HcB] <;> iassumption
  iintro ⟨⟨%fB, %hfB, HB⟩, HTB, HL2, HsB, HW⟩
  iapply (twp_bind (hLB fB hfB _ ha1)) $$ [HI HB]
  · isplitl [HI] <;> iassumption
  iintro %a2 ⟨%ha2, HI, HB⟩
  iapply (wp_load 𝒱₀ (tid d i) none Set.univ (Finset.subset_univ _)) $$ HI; iintro HI
  iapply (twp_bind (wp_tail d i Set.univ B hfB (X row) (rowsOf Tv (X row)) (fun r hr => by
      show rowsOf Tv (X row) (112 + (80 + r)) = _
      rw [← Nat.add_assoc]) _ (hX.lanes hoI hI) a2 ha2)) $$ HB
  iintro %a3 ⟨%ha3, HB⟩
  iapply (wp_puts d i Out oO hO row hoO (psum (X row) (rowsOf Tv (X row)) 200) a3 ha3 v) $$ HO
  iintro HO
  iapply Hk
  ihave HL := (pointsTo_share (PosShare.mem_left_op_right fullShare)).2 $$ [HL1 HL2]
  · isplitl [HL1] <;> iassumption
  isplitl [HA HB HTA HTB HsA HsB]
  · isplitl [HA]; · iexists _; iexact HA
    isplitl [HB]; · iexists _; iexact HB
    isplitl [HTA]; · iexact HTA
    isplitl [HTB]; · iexact HTB
    isplitl [HsA] <;> iassumption
  isplitl [HL]; · iexists _; iexact HL
  isplitl [HI]; · iexact HI
  isplitl [HO]; · iexact HO
  iexact HW

end Slot

end Cert.Proof.KernelIdeal

end
-- ==== Proof.Tile.lean ====
/-
  The tile's result. `pooled X Tv a l` is lane `l` of row `a`: the sum of the row's two hundred items for `l < 64`, zero
  beyond. The pair loop's invariant at trip `j` holds the rows before `2 j` stored, the gathers of row `2 j` on their way
  and the other slot at rest.
-/
module

public import proofs.«01_k».proof.Proof.Gather

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- The pooled rows of indices `X` over table `Tv`. -/
def pooled (X : ℕ → ℕ → BitVec 32) (Tv : ℕ → ℕ → F .f32) (a b : ℕ) : F .f32 :=
  if b < 64 then psum (X a) (rowsOf Tv (X a)) 200 b else fzero

/-- The rows before `n` are stored, and zero beyond lane 64 everywhere. -/
def Done (X : ℕ → ℕ → BitVec 32) (Tv : ℕ → ℕ → F .f32) (v : ℕ → ℕ → F .f32) (n : ℕ) : Prop :=
  ∀ a b, a < 128 → b < 128 → (64 ≤ b ∨ a < n) → v a b = pooled X Tv a b

theorem Done.step {X : ℕ → ℕ → BitVec 32} {Tv v : ℕ → ℕ → F .f32} {n : ℕ} (h : Done X Tv v n) :
    Done X Tv (fun a b => if a = n ∧ b < 64 then psum (X n) (rowsOf Tv (X n)) 200 b else v a b) (n + 1) := by
  intro a b ha hb hab
  dsimp only
  by_cases h1 : a = n ∧ b < 64
  · rw [if_pos h1]
    unfold pooled
    rw [if_pos h1.2, h1.1]
  · rw [if_neg h1]
    refine h a b ha hb ?_
    omega

/-- The pairs but the last start the next even row's gathers. -/
theorem cond1_iff : ∀ j : Fin k0_t3_loop.trips, k0_cond1 j = 1#1 ↔ j.val + 1 < 64 := by decide

section Body

variable (d : Dev nD) (i : grid0.Coords)
variable (arg2 : Memref sig .scVector .hbm S4096x256 .i32) (harg2 : arg2.IsWhole) (arg3 : Memref sig .scVector .hbm S500000x128 .f32) (harg3 : arg3.IsWhole) (arg4 : Memref sig .scVector .hbm S4096x128 .f32) (harg4 : arg4.IsWhole) (arg5 : Memref sig .scVector .vmem S128x256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S112x128 .f32) (harg8 : arg8.IsWhole) (arg9 : Memref sig .scVector .vmem S112x128 .f32) (harg9 : arg9.IsWhole) (arg10 : Memref sig .scVector .vmem S88x128 .f32) (harg10 : arg10.IsWhole) (arg11 : Memref sig .scVector .vmem S88x128 .f32) (harg11 : arg11.IsWhole) (arg12 : Memref sig .scVector .vmem S128x128 .f32) (harg12 : arg12.IsWhole) (arg13 : DmaSems sig S_) (arg14 : DmaSems sig S_) (arg15 : DmaSems sig S_) (arg16 : DmaSems sig S_) (v14_r0 : DmaSems sig S_) (v14_r1 : DmaSems sig S_)

/-- A trip of the loop that zeroes the upper lanes. -/
theorem t1_eq (k : Fin k0_t1_loop.trips) (w : BitVec 32) :
    k0_t1_body (F := F) i arg2 harg2 arg3 harg3 arg4 harg4 arg5 harg5 arg6 harg6 arg7 harg7 arg8 harg8 arg9 harg9 arg10 harg10 arg11 harg11 arg12 harg12 arg13 arg14 arg15 arg16 v14_r0 v14_r1 k w = (do
      put16 i arg12 (k0_off2 k) (k0_off2_inb k) (k0_pay380 (F := F))
      put16 i arg12 (k0_off3 k) (k0_off3_inb k) (k0_pay381 (F := F))
      put16 i arg12 (k0_off4 k) (k0_off4_inb k) (k0_pay382 (F := F))
      put16 i arg12 (k0_off5 k) (k0_off5_inb k) (k0_pay383 (F := F))
      pure 0#32) := rfl

/-- A trip of the loop that lists the first row. -/
theorem t2_eq (k : Fin k0_t2_loop.trips) (w : BitVec 32) :
    k0_t2_body (F := F) i arg2 harg2 arg3 harg3 arg4 harg4 arg5 harg5 arg6 harg6 arg7 harg7 arg8 harg8 arg9 harg9 arg10 harg10 arg11 harg11 arg12 harg12 arg13 arg14 arg15 arg16 v14_r0 v14_r1 k w
      = halve i arg5 (k0_off6 k) (k0_off6_inb k) arg6 (k0_off7 k) (k0_off7_inb k) := rfl

/-- The upper lanes zeroed. -/
theorem wp_zeros (w₀ : BitVec 32) (X : ℕ → ℕ → BitVec 32) (Tv : ℕ → ℕ → F .f32) :
    iprop(∃ f, (arg12.view.loc (tid d i) ↦{fullShare} f))
      ⊢ twp d i Set.univ (Scf.Loop.for k0_t1_loop k0_t1_ok w₀ (k0_t1_body (F := F) i arg2 harg2 arg3 harg3 arg4 harg4 arg5 harg5 arg6 harg6 arg7 harg7 arg8 harg8 arg9 harg9 arg10 harg10 arg11 harg11 arg12 harg12 arg13 arg14 arg15 arg16 v14_r0 v14_r1))
          fun _ => iprop(∃ v, ⌜Done X Tv v 0⌝ ∗ ∃ f, ⌜Holds2 arg12 f v⌝ ∗ (arg12.view.loc (tid d i) ↦{fullShare} f)) := by
  refine BIBase.Entails.trans ?_ (Scf.wp_for frame (wpE (defs₀ (F := F)) 𝒱₀ (tid d i) none) Set.univ k0_t1_loop.lb k0_t1_loop.ub k0_t1_loop.st k0_t1_ok w₀
    (k0_t1_body (F := F) i arg2 harg2 arg3 harg3 arg4 harg4 arg5 harg5 arg6 harg6 arg7 harg7 arg8 harg8 arg9 harg9 arg10 harg10 arg11 harg11 arg12 harg12 arg13 arg14 arg15 arg16 v14_r0 v14_r1)
    (fun k _ => iprop(∃ v, ⌜∀ a b, a < k → 64 ≤ b → b < 128 → v a b = fzero⌝ ∗ ∃ f, ⌜Holds2 arg12 f v⌝ ∗ (arg12.view.loc (tid d i) ↦{fullShare} f))) ?_)
  · iintro ⟨%f, HO⟩
    isplitl [HO]
    · iexists fun a b => if h : a < 128 ∧ b < 128 then arg12.view.read (Elt F) f (ix2 ⟨a, h.1⟩ ⟨b, h.2⟩) else fzero
      isplitr
      · ipureintro; intro a b ha; omega
      · iexists f
        isplitr
        · ipureintro
          intro x
          have h0 : (x 0).val < 128 := (x 0).isLt
          have h1 : (x 1).val < 128 := (x 1).isLt
          dsimp only
          rw [dif_pos ⟨h0, h1⟩]
          exact congrArg _ (eq_ix2 x)
        · iexact HO
    · iintro %_ ⟨%v, %hv, HO⟩
      iexists v
      isplitr
      · ipureintro
        intro a b ha hb hab
        have h64 : 64 ≤ b := by omega
        rw [hv a b ha h64 hb]
        unfold pooled
        rw [if_neg (by omega)]
      · iexact HO
  · intro k w
    rw [t1_eq]
    iintro ⟨%v, %hv, HO⟩
    have hz : ∀ (c : ℕ) (l : Fin 16), (shapeCast S1x16 (k0_pay379 (F := F)) shapeCasts_S16_S1x16 : FVec F S1x16 .f32) (ix2 (0 : Fin 1) l) = (fun _ => fzero) (c + l.val) := fun _ _ => rfl
    iapply (twp_bind (wp_put16 d i Set.univ arg12 (k0_off2 k) (k0_off2_inb k) k0_pay380 k.val 64 (k0_off2_eq k) (fun _ => fzero) (hz 64) v)) $$ HO
    iintro %_ HO
    iapply (twp_bind (wp_put16 d i Set.univ arg12 (k0_off3 k) (k0_off3_inb k) k0_pay381 k.val 80 (k0_off3_eq k) (fun _ => fzero) (hz 80) _)) $$ HO
    iintro %_ HO
    iapply (twp_bind (wp_put16 d i Set.univ arg12 (k0_off4 k) (k0_off4_inb k) k0_pay382 k.val 96 (k0_off4_eq k) (fun _ => fzero) (hz 96) _)) $$ HO
    iintro %_ HO
    iapply (twp_bind (wp_put16 d i Set.univ arg12 (k0_off5 k) (k0_off5_inb k) k0_pay383 k.val 112 (k0_off5_eq k) (fun _ => fzero) (hz 112) _)) $$ HO
    iintro %_ HO
    iapply (le_wp_ret _ _ _ _ _)
    iexists _
    isplitr
    swap; · iexact HO
    ipureintro
    intro a b ha hb hb'
    dsimp only
    split_ifs with h1 h2 h3 h4 <;> first | rfl | exact hv a b (by omega) hb hb'

variable (fT : arg3.view.ty.Contents (Elt F)) (qs : Fin 4 → PosShare TreeShare) {fI : arg5.view.ty.Contents (Elt F)} {X : ℕ → ℕ → BitVec 32} {Tv : ℕ → ℕ → F .f32}
  (O : CellTallies nD τ sig (HIx 1)) (W : Waits sig (HIx 1))

/-- The even rows' slot before trip `j`: its gathers on their way, after the last trip at rest. -/
def Slot (X : ℕ → ℕ → BitVec 32) (Tv : ℕ → ℕ → F .f32) (j : ℕ) : sProp (MM F) :=
  if j < 64 then Busy d i arg3 fT arg8 arg10 arg6 arg13 arg15 (qs 0) (qs 1) Tv (X (2 * j))
  else iprop(Idle d i arg3 fT arg8 arg10 arg13 arg15 (qs 0) (qs 1) ∗ Free d i arg6)

theorem wp_nextTask (hT : Holds2 arg3 fT Tv) (hX : Holds2 arg5 fI X) (hw : ∀ a s, a < 128 → s < 200 → (half (X a s)).toNat < 500000) (hN : Credits arg8 arg10)
    (j : Fin k0_t3_loop.trips) {α : Type} {k : TProg F i α} {Q : α → sProp (MM F)} :
    iprop(Idle d i arg3 fT arg8 arg10 arg13 arg15 (qs 0) (qs 1) ∗ Free d i arg6 ∗ (arg5.view.loc (tid d i) ↦{fullShare} fI))
      ⊢ iprop(((Slot d i arg3 arg6 arg8 arg10 arg13 arg15 fT qs X Tv (j.val + 1) ∗ (arg5.view.loc (tid d i) ↦{fullShare} fI)) -∗ twp d i Set.univ k Q)
        -∗ twp d i Set.univ (nextTask i arg3 arg5 arg6 arg8 arg10 arg13 arg15 j >>= fun _ => k) Q) := by
  unfold nextTask Slot
  by_cases h : k0_cond1 j = 1#1
  · have hj := (cond1_iff j).mp h
    simp only [dif_pos h, if_pos hj, bind_assoc, pure_bind]
    iintro ⟨Hi, HF, HI⟩ Hk
    iapply (twp_bind (wp_halves d i Set.univ k0_t7_loop (k0_t7_ok j h) (by decide) arg5 arg6 (k0_off33 j) (fun k => k0_off33_inb j k h) k0_off34 (fun k => k0_off34_inb j k h) hX
      (2 * j.val + 2) (k0_off33_eq j) k0_off34_eq 0#32)) $$ [HI HF]
    · isplitl [HI] <;> iassumption
    iintro %_ ⟨HI, HF⟩
    iapply (wp_fires d i arg3 fT arg8 arg10 arg6 arg13 arg15 (qs 0) (qs 1) hT hN (X (2 * j.val + 2)) (fun s hs => hw _ s (by omega) hs)) $$ [Hi HF]
    · isplitl [Hi] <;> iassumption
    iintro Hb
    iapply Hk
    isplitl [Hb]
    · iexact Hb
    · iexact HI
  · have hj : ¬ j.val + 1 < 64 := fun e => h ((cond1_iff j).mpr e)
    simp only [dif_neg h, if_neg hj, pure_bind]
    iintro ⟨Hi, HF, HI⟩ Hk
    iapply Hk
    isplitl [Hi HF]
    · isplitl [Hi] <;> iassumption
    · iexact HI

/-- Before trip `j` of the pair loop. -/
def PInv (fI : arg5.view.ty.Contents (Elt F)) (X : ℕ → ℕ → BitVec 32) (Tv : ℕ → ℕ → F .f32) (j : ℕ) : sProp (MM F) :=
  iprop(Transfers.MayWaits (tid d i) (none : HIx 1) O ∗ (arg5.view.loc (tid d i) ↦{fullShare} fI)
    ∗ Idle d i arg3 fT arg9 arg11 arg14 arg16 (qs 2) (qs 3) ∗ Free d i arg7
    ∗ Slot d i arg3 arg6 arg8 arg10 arg13 arg15 fT qs X Tv j
    ∗ (∃ v, ⌜Done X Tv v (2 * j)⌝ ∗ ∃ f, ⌜Holds2 arg12 f v⌝ ∗ (arg12.view.loc (tid d i) ↦{fullShare} f))
    ∗ Owes d i O W)

/-- The first hundred and twelve items of a row, in a loop of seven blocks. -/
theorem wp_upper (l : Scf.Loop 32) (hok : l.OK) (hl : l.trips = 7) (A : Memref sig .scVector .vmem (SN 112) .f32)
    (oI : Fin l.trips → Fin 2 → ℕ) (hI : ∀ k a, oI k a + S1x16.size a ≤ S128x256.size a) (o : Fin l.trips → Fin 16 → Fin 8 → Fin 2 → ℕ)
    (h : ∀ k r g a, o k r g a + S1x16.size a ≤ (SN 112).size a) (hX : Holds2 arg5 fI X) (row : ℕ)
    (hoI : ∀ k, oI k = ![row, 16 * k.val]) (ho : ∀ k r g, o k r g = ![16 * k.val + r.val, ![0, 64, 16, 80, 32, 96, 48, 112] g])
    (f : A.view.ty.Contents (Elt F)) (hf : Holds2 A f (rowsOf Tv (X row))) (a : Acc F) (ha : a = sums (psum (X row) (rowsOf Tv (X row)) 0)) :
    iprop((arg5.view.loc (tid d i) ↦{fullShare} fI) ∗ (A.view.loc (tid d i) ↦{fullShare} f))
      ⊢ twp d i Set.univ (Scf.Loop.for l hok a fun k a => block i arg5 (oI k) (hI k) A (o k) (h k) a)
        fun a' => iprop(⌜a' = sums (psum (X row) (rowsOf Tv (X row)) 112)⌝ ∗ (arg5.view.loc (tid d i) ↦{fullShare} fI) ∗ (A.view.loc (tid d i) ↦{fullShare} f)) := by
  have hb := wp_blocks d i Set.univ l hok arg5 A oI hI o h hX hf row 0 hoI ho (rowsOf Tv (X row)) (fun k _ => by rw [Nat.zero_add]) a ha (q := fullShare)
  rw [show 0 + 16 * l.trips = 112 by omega] at hb
  exact hb

/-- The next eighty, in a loop of five blocks. -/
theorem wp_lower (l : Scf.Loop 32) (hok : l.OK) (hl : l.trips = 5) (B : Memref sig .scVector .vmem (SN 88) .f32)
    (oI : Fin l.trips → Fin 2 → ℕ) (hI : ∀ k a, oI k a + S1x16.size a ≤ S128x256.size a) (o : Fin l.trips → Fin 16 → Fin 8 → Fin 2 → ℕ)
    (h : ∀ k r g a, o k r g a + S1x16.size a ≤ (SN 88).size a) (hX : Holds2 arg5 fI X) (row : ℕ)
    (hoI : ∀ k, oI k = ![row, 16 * k.val + 112]) (ho : ∀ k r g, o k r g = ![16 * k.val + r.val, ![0, 64, 16, 80, 32, 96, 48, 112] g])
    (f : B.view.ty.Contents (Elt F)) (hf : Holds2 B f (fun k => rowsOf Tv (X row) (112 + k))) (a : Acc F) (ha : a = sums (psum (X row) (rowsOf Tv (X row)) 112)) :
    iprop((arg5.view.loc (tid d i) ↦{fullShare} fI) ∗ (B.view.loc (tid d i) ↦{fullShare} f))
      ⊢ twp d i Set.univ (Scf.Loop.for l hok a fun k a => block i arg5 (oI k) (hI k) B (o k) (h k) a)
        fun a' => iprop(⌜a' = sums (psum (X row) (rowsOf Tv (X row)) 192)⌝ ∗ (arg5.view.loc (tid d i) ↦{fullShare} fI) ∗ (B.view.loc (tid d i) ↦{fullShare} f)) := by
  have hb := wp_blocks d i Set.univ l hok arg5 B oI hI o h hX hf row 112 hoI ho (rowsOf Tv (X row)) (fun k _ => rfl) a ha (q := fullShare)
  rw [show 112 + 16 * l.trips = 192 by omega] at hb
  exact hb

theorem wp_pairTask (hT : Holds2 arg3 fT Tv) (hX : Holds2 arg5 fI X) (hw : ∀ a s, a < 128 → s < 200 → (half (X a s)).toNat < 500000)
    (hN0 : Credits arg8 arg10) (hN1 : Credits arg9 arg11) (j : Fin k0_t3_loop.trips) :
    PInv d i arg3 arg5 arg6 arg7 arg8 arg9 arg10 arg11 arg12 arg13 arg14 arg15 arg16 fT qs O W fI X Tv j.val
      ⊢ twp d i Set.univ (pairTask i arg3 arg5 arg6 arg7 arg8 harg8 arg9 harg9 arg10 harg10 arg11 harg11 arg12 arg13 arg14 arg15 arg16 j)
          fun _ => PInv d i arg3 arg5 arg6 arg7 arg8 arg9 arg10 arg11 arg12 arg13 arg14 arg15 arg16 fT qs O W fI X Tv (j.val + 1) := by
  have hj : j.val < 64 := j.isLt
  unfold pairTask PInv
  rw [Slot, if_pos hj]
  iintro ⟨#Hm, HI, Hi1, HF1, Hb0, ⟨%v, %hv, HO⟩, HW⟩
  iapply (twp_bind (wp_halves d i Set.univ k0_t4_loop k0_t4_ok (by decide) arg5 arg7 (k0_off8 j) (k0_off8_inb j) k0_off9 k0_off9_inb hX
    (2 * j.val + 1) (k0_off8_eq j) k0_off9_eq 0#32)) $$ [HI HF1]
  · isplitl [HI] <;> iassumption
  iintro %_ ⟨HI, HF1⟩
  iapply (wp_fires d i arg3 fT arg9 arg11 arg7 arg14 arg16 (qs 2) (qs 3) hT hN1 (X (2 * j.val + 1)) (fun s hs => hw _ s (by omega) hs)) $$ [Hi1 HF1]
  · isplitl [Hi1] <;> iassumption
  iintro Hb1
  iapply (wp_rowTask d i arg3 fT arg8 arg10 arg6 arg13 arg15 (qs 0) (qs 1) arg5 hX harg8 harg10 arg12 _ _ (2 * j.val)
    (wp_upper d i arg5 k0_t5_loop k0_t5_ok (by decide) arg8 (k0_off10 j) (k0_off10_inb j) off_t5 off_t5_inb hX _ (k0_off10_eq j) off_t5_eq)
    (wp_lower d i arg5 k0_t6_loop k0_t6_ok (by decide) arg10 (k0_off19 j) (k0_off19_inb j) off_t6 off_t6_inb hX _ (k0_off19_eq j) off_t6_eq)
    (k0_off28 j) (k0_off28_inb j) (k0_off28_eq j) (offE j) (offE_inb j) (offE_eq j) v O W) $$ [Hb0 HI HO HW]
  · isplitr; · iexact Hm
    isplitl [Hb0]; · iexact Hb0
    isplitl [HI]; · iexact HI
    isplitl [HO] <;> iassumption
  iintro ⟨Hi0, HF0, HI, HO, HW⟩
  iapply (wp_nextTask d i arg3 arg5 arg6 arg8 arg10 arg13 arg15 fT qs hT hX hw hN0 j) $$ [Hi0 HF0 HI]
  · isplitl [Hi0]; · iexact Hi0
    isplitl [HF0] <;> iassumption
  iintro ⟨Hs0, HI⟩
  iapply (wp_rowTask d i arg3 fT arg9 arg11 arg7 arg14 arg16 (qs 2) (qs 3) arg5 hX harg9 harg11 arg12 _ _ (2 * j.val + 1)
    (wp_upper d i arg5 k0_t8_loop k0_t8_ok (by decide) arg9 (k0_off35 j) (k0_off35_inb j) off_t8 off_t8_inb hX _ (k0_off35_eq j) off_t8_eq)
    (wp_lower d i arg5 k0_t9_loop k0_t9_ok (by decide) arg11 (k0_off44 j) (k0_off44_inb j) off_t9 off_t9_inb hX _ (k0_off44_eq j) off_t9_eq)
    (k0_off53 j) (k0_off53_inb j) (k0_off53_eq j) (offO j) (offO_inb j) (offO_eq j) _ O W) $$ [Hb1 HI HO HW]
  · isplitr; · iexact Hm
    isplitl [Hb1]; · iexact Hb1
    isplitl [HI]; · iexact HI
    isplitl [HO] <;> iassumption
  iintro ⟨Hi1, HF1, HI, HO, HW⟩
  iapply (le_wp_ret _ _ _ _ _)
  isplitr; · iexact Hm
  isplitl [HI]; · iexact HI
  isplitl [Hi1]; · iexact Hi1
  isplitl [HF1]; · iexact HF1
  isplitl [Hs0]; · iexact Hs0
  isplitl [HO]
  · iexists _
    isplitr
    · ipureintro
      exact hv.step.step
    · iexact HO
  iexact HW

/-- The pair loop. -/
theorem wp_pairs (hT : Holds2 arg3 fT Tv) (hX : Holds2 arg5 fI X) (hw : ∀ a s, a < 128 → s < 200 → (half (X a s)).toNat < 500000)
    (hN0 : Credits arg8 arg10) (hN1 : Credits arg9 arg11) (w₀ : BitVec 32) :
    PInv d i arg3 arg5 arg6 arg7 arg8 arg9 arg10 arg11 arg12 arg13 arg14 arg15 arg16 fT qs O W fI X Tv 0
      ⊢ twp d i Set.univ (Scf.Loop.for k0_t3_loop k0_t3_ok w₀ (k0_t3_body (F := F) i arg2 harg2 arg3 harg3 arg4 harg4 arg5 harg5 arg6 harg6 arg7 harg7 arg8 harg8 arg9 harg9 arg10 harg10 arg11 harg11 arg12 harg12 arg13 arg14 arg15 arg16 v14_r0 v14_r1))
          fun _ => PInv d i arg3 arg5 arg6 arg7 arg8 arg9 arg10 arg11 arg12 arg13 arg14 arg15 arg16 fT qs O W fI X Tv 64 := by
  refine BIBase.Entails.trans ?_ (Scf.wp_for frame (wpE (defs₀ (F := F)) 𝒱₀ (tid d i) none) Set.univ k0_t3_loop.lb k0_t3_loop.ub k0_t3_loop.st k0_t3_ok w₀
    (k0_t3_body (F := F) i arg2 harg2 arg3 harg3 arg4 harg4 arg5 harg5 arg6 harg6 arg7 harg7 arg8 harg8 arg9 harg9 arg10 harg10 arg11 harg11 arg12 harg12 arg13 arg14 arg15 arg16 v14_r0 v14_r1)
    (fun j _ => PInv d i arg3 arg5 arg6 arg7 arg8 arg9 arg10 arg11 arg12 arg13 arg14 arg15 arg16 fT qs O W fI X Tv j) ?_)
  · iintro H
    isplitl [H]
    · iexact H
    · iintro %_ H
      iexact H
  · intro j w
    rw [t3_eq]
    exact wp_pairTask d i arg3 arg5 arg6 arg7 arg8 harg8 arg9 harg9 arg10 harg10 arg11 harg11 arg12 arg13 arg14 arg15 arg16 fT qs O W hT hX hw hN0 hN1 j

end Body

end Cert.Proof.KernelIdeal

end
-- ==== Proof.Task.lean ====
/-
  A tile's whole task: its index rows copied in, the zeros, the first row's list and gathers, the pair loop, the copy out.
  The tile starts with its share of the indices and the table, its rows of the output and its own buffers, and ends with
  the output's rows pooled.
-/
module

public import proofs.«01_k».proof.Proof.Tile

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-- A copy and its wait: the destination reads as the source did. -/
theorem wp_copy (d : Dev nD) (i : grid0.Coords) {sp sp' : Space} {s : Shape} {e : EltTy} (src : Memref sig .scVector sp s e) (dst : Memref sig .scVector sp' s e) (sem : DmaSems sig S_)
    (hpos : 0 < s.numel) {q : PosShare TreeShare} (fs : src.view.ty.Contents (Elt F)) (O : CellTallies nD τ sig (HIx 1)) (W : Waits sig (HIx 1))
    {h1 : src.view.WordExact} {h2 : dst.view.WordExact} {h3 : DmaTarget.Typed (nD := nD) (p := (tid d i).2) sp (.dma sem.sem) (.here dst)}
    {h4 : src.view.WordExact} {h5 : dst.view.WordExact} {α : Type} {k : PUnit → TProg F i α} {Q : α → sProp (MM F)} :
    iprop(Transfers.MayWaits (tid d i) (none : HIx 1) O ∗ (src.view.loc (tid d i) ↦[src.view.set]{q} fs)
        ∗ (∃ f, (dst.view.loc (tid d i) ↦[dst.view.set]{fullShare} f)) ∗ semVal (tid d i, SemLoc.dma sem.sem) 0 ∗ Owes d i O W)
      ⊢ iprop((((src.view.loc (tid d i) ↦[src.view.set]{q} fs)
          ∗ (∃ f, ⌜∀ x, dst.view.read (Elt F) f x = src.view.read (Elt F) fs x⌝ ∗ (dst.view.loc (tid d i) ↦[dst.view.set]{fullShare} f))
          ∗ semVal (tid d i, SemLoc.dma sem.sem) 0 ∗ Owes d i O W) -∗ twp d i Set.univ (k ⟨⟩) Q)
        -∗ twp d i Set.univ (Prog.lift (.enqueueDma src (.here dst) (.dma sem.sem) h1 h2 h3) >>= fun _ => Prog.lift (.waitDma2 sem.sem src dst h4 h5) >>= k) Q) := by
  simp only [Prog.lift, bind, Prog.bind]
  iintro ⟨Hm, Hs, ⟨%fd, Hd⟩, Hv, %W', %hW', HO⟩ Hk
  iapply (Transfers.wp_dmaLocal countersEmb 𝒱₀ (tid d i) none (via := ReadAs.same) (none : HIx 1) dst.view.dmaCredit rfl (View.amount_pos dst.view (.dma sem.sem) hpos) (Finset.Subset.refl _)) $$ [Hs Hd Hv]
  · isplitl [Hs]; · iexact Hs
    isplitl [Hd] <;> iassumption
  iintro Hfl
  iapply (Transfers.wp_waitLocalO countersEmb 𝒱₀ (tid d i) none (none : HIx 1) (rfl : dst.view.dmaCredit = _)) $$ [Hm Hfl HO]
  · isplitl [Hfl]; · iexact Hfl
    isplitl [HO]; · iexact HO
    iapply (Transfers.MayWaits.elim (SemLoc.dma sem.sem)) $$ Hm
  iintro ⟨⟨Hd, Hs⟩, Hv, HO⟩
  iapply Hk
  isplitl [Hs]; · iexact Hs
  isplitl [Hd]
  · iexists _
    isplitr
    swap; · iexact Hd
    ipureintro
    intro x
    rw [View.read_write_univ]
  isplitl [Hv]; · iexact Hv
  iexists _
  isplitr
  swap; · iexact HO
  ipureintro
  intro p hp
  rcases Finset.mem_insert.mp hp with hp | hp
  · exact .inr (hp ▸ rfl)
  · exact hW' p hp

section Body

variable (d : Dev nD) (i : grid0.Coords)
variable (arg2 : Memref sig .scVector .hbm S4096x256 .i32) (harg2 : arg2.IsWhole) (arg3 : Memref sig .scVector .hbm S500000x128 .f32) (harg3 : arg3.IsWhole) (arg4 : Memref sig .scVector .hbm S4096x128 .f32) (harg4 : arg4.IsWhole) (arg5 : Memref sig .scVector .vmem S128x256 .i32) (harg5 : arg5.IsWhole) (arg6 : Memref sig .scVector .vmem S256 .i32) (harg6 : arg6.IsWhole) (arg7 : Memref sig .scVector .vmem S256 .i32) (harg7 : arg7.IsWhole) (arg8 : Memref sig .scVector .vmem S112x128 .f32) (harg8 : arg8.IsWhole) (arg9 : Memref sig .scVector .vmem S112x128 .f32) (harg9 : arg9.IsWhole) (arg10 : Memref sig .scVector .vmem S88x128 .f32) (harg10 : arg10.IsWhole) (arg11 : Memref sig .scVector .vmem S88x128 .f32) (harg11 : arg11.IsWhole) (arg12 : Memref sig .scVector .vmem S128x128 .f32) (harg12 : arg12.IsWhole) (arg13 : DmaSems sig S_) (arg14 : DmaSems sig S_) (arg15 : DmaSems sig S_) (arg16 : DmaSems sig S_) (v14_r0 : DmaSems sig S_) (v14_r1 : DmaSems sig S_)

/-- The tile's rows of the indices, -/
abbrev inRows : Memref sig .scVector .hbm S128x256 .i32 := arg2.slice (Rect.unit (s := S4096x256) (k0_off1 i) S128x256.size (k0_off1_inb i)) (fun _ => rfl)

/-- and of the output. -/
abbrev outRows : Memref sig .scVector .hbm S128x128 .f32 := arg4.slice (Rect.unit (s := S4096x128) (k0_off58 i) S128x128.size (k0_off58_inb i)) (fun _ => rfl)

variable (fT : arg3.view.ty.Contents (Elt F)) (qs : Fin 4 → PosShare TreeShare) {X : ℕ → ℕ → BitVec 32} {Tv : ℕ → ℕ → F .f32}
  (O : CellTallies nD τ sig (HIx 1)) (W : Waits sig (HIx 1))

/-- What the tile works with: its scratch, its semaphores, its shares of the table. -/
def Gear : sProp (MM F) :=
  iprop(Free (F := F) d i arg6 ∗ Free d i arg7 ∗ Idle d i arg3 fT arg8 arg10 arg13 arg15 (qs 0) (qs 1) ∗ Idle d i arg3 fT arg9 arg11 arg14 arg16 (qs 2) (qs 3)
    ∗ (∃ f, (arg5.view.loc (tid d i) ↦{fullShare} f)) ∗ (∃ f, (arg12.view.loc (tid d i) ↦{fullShare} f))
    ∗ semVal (tid d i, SemLoc.dma v14_r0.sem) 0 ∗ semVal (tid d i, SemLoc.dma v14_r1.sem) 0)

set_option maxHeartbeats 1000000 in
theorem wp_body {q : PosShare TreeShare} (fx : arg2.view.ty.Contents (Elt F)) (hx : Holds2 (inRows i arg2) fx X) (hT : Holds2 arg3 fT Tv)
    (hw : ∀ a s, a < 128 → s < 200 → (half (X a s)).toNat < 500000) (hN0 : Credits arg8 arg10) (hN1 : Credits arg9 arg11) :
    iprop(Transfers.MayWaits (tid d i) (none : HIx 1) O ∗ ((inRows i arg2).view.loc (tid d i) ↦[(inRows i arg2).view.set]{q} fx)
        ∗ (∃ f, ((outRows i arg4).view.loc (tid d i) ↦[(outRows i arg4).view.set]{fullShare} f))
        ∗ Gear d i arg3 arg5 arg6 arg7 arg8 arg9 arg10 arg11 arg12 arg13 arg14 arg15 arg16 v14_r0 v14_r1 fT qs ∗ Owes d i O W)
      ⊢ twp d i Set.univ (cc0_sc_pool (F := F) i arg2 harg2 arg3 harg3 arg4 harg4 arg5 harg5 arg6 harg6 arg7 harg7 arg8 harg8 arg9 harg9 arg10 harg10 arg11 harg11 arg12 harg12 arg13 arg14 arg15 arg16 v14_r0 v14_r1)
        fun _ => iprop(((inRows i arg2).view.loc (tid d i) ↦[(inRows i arg2).view.set]{q} fx)
          ∗ (∃ f, ⌜Holds2 (outRows i arg4) f (pooled X Tv)⌝ ∗ ((outRows i arg4).view.loc (tid d i) ↦[(outRows i arg4).view.set]{fullShare} f))
          ∗ Gear d i arg3 arg5 arg6 arg7 arg8 arg9 arg10 arg11 arg12 arg13 arg14 arg15 arg16 v14_r0 v14_r1 fT qs ∗ Owes d i O W) := by
  have h5 : arg5.view.set = Finset.univ := Memref.IsWhole.set_eq_univ harg5
  have h12 : arg12.view.set = Finset.univ := Memref.IsWhole.set_eq_univ harg12
  rw [cc0_sc_pool_eq_skeleton]
  unfold cc0_sc_pool_skel
  rw [k0_part69_eq_skeleton]
  unfold k0_part69_skel Gear
  simp only [bind_assoc, pure_bind]
  iintro ⟨#Hm, Hx, Hout, ⟨HF6, HF7, Hi0, Hi1, ⟨%f5, H5⟩, H12, Hr0, Hr1⟩, HW⟩
  iapply (wp_copy d i (inRows i arg2) arg5 v14_r0 (by decide) fx O W) $$ [Hx H5 Hr0 HW]
  · isplitr; · iexact Hm
    isplitl [Hx]; · iexact Hx
    isplitl [H5]
    · iexists f5
      rw [h5]
      iexact H5
    isplitl [Hr0] <;> iassumption
  rw [h5]
  iintro ⟨Hx, ⟨%fI, %hfI, HI⟩, Hr0, HW⟩
  have hX : Holds2 arg5 fI X := fun x => (hfI x).trans (hx x)
  iapply (twp_bind (wp_zeros d i arg2 harg2 arg3 harg3 arg4 harg4 arg5 harg5 arg6 harg6 arg7 harg7 arg8 harg8 arg9 harg9 arg10 harg10 arg11 harg11 arg12 harg12 arg13 arg14 arg15 arg16 v14_r0 v14_r1 0#32 X Tv)) $$ H12
  iintro %_ HO
  iapply (twp_bind (wp_halves d i Set.univ k0_t2_loop k0_t2_ok (by decide) arg5 arg6 k0_off6 k0_off6_inb k0_off7 k0_off7_inb hX
    0 k0_off6_eq k0_off7_eq 0#32)) $$ [HI HF6]
  · isplitl [HI] <;> iassumption
  iintro %_ ⟨HI, HF6⟩
  iapply (wp_fires d i arg3 fT arg8 arg10 arg6 arg13 arg15 (qs 0) (qs 1) hT hN0 (X 0) (fun s hs => hw _ s (by omega) hs)) $$ [Hi0 HF6]
  · isplitl [Hi0] <;> iassumption
  iintro Hb0
  iapply (twp_bind (wp_pairs d i arg2 harg2 arg3 harg3 arg4 harg4 arg5 harg5 arg6 harg6 arg7 harg7 arg8 harg8 arg9 harg9 arg10 harg10 arg11 harg11 arg12 harg12 arg13 arg14 arg15 arg16 v14_r0 v14_r1 fT qs O W hT hX hw hN0 hN1 0#32)) $$ [HI Hi1 HF7 Hb0 HO HW]
  · unfold PInv
    rw [Slot, if_pos (by decide)]
    isplitr; · iexact Hm
    isplitl [HI]; · iexact HI
    isplitl [Hi1]; · iexact Hi1
    isplitl [HF7]; · iexact HF7
    isplitl [Hb0]; · iexact Hb0
    isplitl [HO] <;> iassumption
  iintro %_ HP
  unfold PInv
  rw [Slot, if_neg (by decide)]
  icases HP with ⟨-, HI, Hi1, HF7, ⟨Hi0, HF6⟩, ⟨%v, %hv, %fO, %hfO, HO⟩, HW⟩
  iapply (wp_copy d i arg12 (outRows i arg4) v14_r1 (by decide) fO O W) $$ [Hout HO Hr1 HW]
  · isplitr; · iexact Hm
    rw [h12]
    isplitl [HO]; · iexact HO
    isplitl [Hout]; · iexact Hout
    isplitl [Hr1] <;> iassumption
  rw [h12]
  iintro ⟨HO, ⟨%fo, %hfo, Hout⟩, Hr1, HW⟩
  iapply (le_wp_ret _ _ _ _ _)
  isplitl [Hx]; · iexact Hx
  isplitl [Hout]
  · iexists fo
    isplitr
    swap; · iexact Hout
    ipureintro
    intro x
    rw [hfo, hfO]
    have h0 : (x 0).val < 128 := (x 0).isLt
    have h1 : (x 1).val < 128 := (x 1).isLt
    exact hv _ _ h0 h1 (.inr h0)
  isplitr [HW]
  · isplitl [HF6]; · iexact HF6
    isplitl [HF7]; · iexact HF7
    isplitl [Hi0]; · iexact Hi0
    isplitl [Hi1]; · iexact Hi1
    isplitl [HI]; · iexists fI; iexact HI
    isplitl [HO]; · iexists fO; iexact HO
    isplitl [Hr0] <;> iassumption
  iexact HW

end Body

end Cert.Proof.KernelIdeal

end
-- ==== Proof.Deal.lean ====
/-
  The SparseCore call's launch. A call's operands are the padded indices, the table by rows of 128 and the pooled
  output; the two cores and their sixteen tiles each read the first two whole, through shares, and each tile owns the
  128 rows of the output it writes. `wp_tile` runs one tile's task from those holdings to the same with its rows
  holding the pooled sums; `tileObl` and `vecSplit` are that in the form the launch asks for.
-/
module

public import proofs.«01_k».proof.Proof.Task
public import proofs.«01_k».proof.Proof.Gen.KernelIdeal.Launch

@[expose] public section

noncomputable section

namespace Cert.Proof.KernelIdeal

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

abbrev ΛP : Labels := Pipeline.Sig Λ₀ (Fin 1) fun p => (pcfgs (F := F) p).Adm
abbrev KK : SparseCore.Cfg τ sig (ΛP (F := F)) 1 := sc (F := F)
abbrev DD : Defs nD τ sig (Elt F) (ΛP (F := F)) := Pipeline.defs pcfgs defs₀
abbrev 𝒱₁ : Variants := 𝒱₀.lift
abbrev v₀ : 𝒱₁.V := Sum.inl none

theorem nCore_zero : (KK (F := F)).nCore 0 = 2 := rfl
theorem nSub_zero : (KK (F := F)).nSub 0 = 16 := rfl

theorem facts : (KK (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library in the certificate's algebra. -/
abbrev EH : Emb UH (MM F) := embL

/-! ## The operands -/

abbrev xLoc (d : Dev nD) : Loc nD τ sig := (SparseCore.T d : Thread nD τ).loc main_v1
abbrev tLoc (d : Dev nD) : Loc nD τ sig := (SparseCore.T d : Thread nD τ).loc main_v0
abbrev oLoc (d : Dev nD) : Loc nD τ sig := (SparseCore.T d : Thread nD τ).loc main_v2

/-- A function of two coordinates as an array's contents. -/
def spread {n m : ℕ} {A : Type} (v : ℕ → ℕ → A) : (⟨2, ![n, m]⟩ : Shape).Idx → A := fun x => v (x 0).val (x 1).val

abbrev xv (X : ℕ → ℕ → BitVec 32) (d : Dev nD) : Buf (Elt F) (xLoc d) := spread (n := 4096) (m := 256) X
abbrev tv (Tv : ℕ → ℕ → F .f32) (d : Dev nD) : Buf (Elt F) (tLoc d) := spread (n := 500000) (m := 128) Tv
abbrev ov (X : ℕ → ℕ → BitVec 32) (Tv : ℕ → ℕ → F .f32) (d : Dev nD) : Buf (Elt F) (oLoc d) :=
  spread (n := 4096) (m := 128) (pooled X Tv)

/-- The output rows of core `c`, and of its tile `j`. -/
def coreRows (c : ℕ) : Finset S4096x128.Idx := Finset.univ.filter fun x => (x 0).val / 128 % 2 = c
def tileRows (c j : ℕ) : Finset S4096x128.Idx := Finset.univ.filter fun x => (x 0).val / 128 = 2 * j + c

theorem coreRows_disjoint : ∀ a ∈ (Finset.univ : Finset (Fin 2)), ∀ b ∈ (Finset.univ : Finset (Fin 2)), a ≠ b → Disjoint (coreRows a.val) (coreRows b.val) :=
  fun a _ b _ h => Finset.disjoint_filter.mpr fun x _ h₁ h₂ => h (Fin.ext (h₁.symm.trans h₂))

theorem coreRows_cover : (Finset.univ : Finset (Fin 2)).biUnion (fun c => coreRows c.val) = Finset.univ := by
  ext x
  simp only [coreRows, Finset.mem_biUnion, Finset.mem_univ, true_and, Finset.mem_filter, iff_true]
  exact ⟨⟨(x 0).val / 128 % 2, Nat.mod_lt _ (by omega)⟩, rfl⟩

theorem tileRows_disjoint (c : ℕ) : ∀ a ∈ (Finset.univ : Finset (Fin 16)), ∀ b ∈ (Finset.univ : Finset (Fin 16)), a ≠ b →
    Disjoint (tileRows c a.val) (tileRows c b.val) :=
  fun a _ b _ h => Finset.disjoint_filter.mpr fun x _ h₁ h₂ => h (Fin.ext (by omega))

theorem tileRows_cover (c : ℕ) (hc : c < 2) : (Finset.univ : Finset (Fin 16)).biUnion (fun j => tileRows c j.val) = coreRows c := by
  ext x
  simp only [tileRows, coreRows, Finset.mem_biUnion, Finset.mem_univ, true_and, Finset.mem_filter]
  have hx : (x 0).val < 4096 := (x 0).isLt
  constructor
  · rintro ⟨j, hj⟩; omega
  · intro h; exact ⟨⟨(x 0).val / 256, by omega⟩, by dsimp only; omega⟩

/-- The shares the reads go through: a core's, a tile's, and a tile's four on the table. -/
abbrev cq (c : Fin 2) : PosShare TreeShare := ShareLeaves.leaf 1 fullShare c
abbrev tq (c : Fin 2) (j : Fin 16) : PosShare TreeShare := ShareLeaves.leaf 4 (cq c) j

variable (m : (ℓ : Loc nD τ sig) → Buf (Elt F) ℓ) (X : Dev nD → ℕ → ℕ → BitVec 32) (Tv : Dev nD → ℕ → ℕ → F .f32)

/-- What a core is handed of the three arrays, the output at `f`, and what a tile is. -/
def coreHas (d : Dev nD) (c : Fin 2) (f : Buf (Elt F) (oLoc d)) : sProp (MM F) :=
  iprop((xLoc d ↦{cq c} xv (F := F) (X d) d) ∗ (tLoc d ↦{cq c} tv (Tv d) d) ∗ (oLoc d ↦[coreRows c.val]{fullShare} f))
def tileHas (d : Dev nD) (c : Fin 2) (j : Fin 16) (f : Buf (Elt F) (oLoc d)) : sProp (MM F) :=
  iprop((xLoc d ↦{tq c j} xv (F := F) (X d) d) ∗ (tLoc d ↦{tq c j} tv (Tv d) d) ∗ (oLoc d ↦[tileRows c.val j.val]{fullShare} f))

instance coreHas_storable (d : Dev nD) (c : Fin 2) (f : Buf (Elt F) (oLoc d)) : BI.Storable (upEmb : UEmb _ (MM F)) (coreHas X Tv d c f) := by
  unfold coreHas; infer_instance
instance tileHas_storable (d : Dev nD) (c : Fin 2) (j : Fin 16) (f : Buf (Elt F) (oLoc d)) : BI.Storable (upEmb : UEmb _ (MM F)) (tileHas X Tv d c j f) := by
  unfold tileHas; infer_instance

/-- The output before the call. -/
abbrev o0 (d : Dev nD) : Buf (Elt F) (oLoc d) := m (oLoc d)

/-- What the handshakes carry. -/
def P : (KK (F := F)).Pay (nD := nD) (Val := Elt F) (Name := ℕ) (U := UU) where
  st := fun q d c => match q with | 0 => coreHas X Tv d (Fin.cast nCore_zero c) (o0 m d)
  dn := fun q d c => match q with | 0 => coreHas X Tv d (Fin.cast nCore_zero c) (ov (X d) (Tv d) d)
  go := fun q d c i => match q with | 0 => tileHas X Tv d (Fin.cast nCore_zero c) (Fin.cast nSub_zero i) (o0 m d)
  td := fun q d c i => match q with | 0 => tileHas X Tv d (Fin.cast nCore_zero c) (Fin.cast nSub_zero i) (ov (X d) (Tv d) d)
  x := fun _ _ => iprop(emp)

instance P_storable : (P m X Tv).IsStorable where
  st q d c := match q with | 0 => coreHas_storable X Tv d (Fin.cast nCore_zero c) (o0 m d)
  dn q d c := match q with | 0 => coreHas_storable X Tv d (Fin.cast nCore_zero c) (ov (X d) (Tv d) d)
  go q d c i := match q with | 0 => tileHas_storable X Tv d (Fin.cast nCore_zero c) (Fin.cast nSub_zero i) (o0 m d)
  td q d c i := match q with | 0 => tileHas_storable X Tv d (Fin.cast nCore_zero c) (Fin.cast nSub_zero i) (ov (X d) (Tv d) d)

/-! ## The split -/

/-- A core's holdings are its tiles'. -/
theorem coreHas_eq (d : Dev nD) (c : Fin 2) (f : Buf (Elt F) (oLoc d)) :
    coreHas X Tv d c f = bigSep Finset.univ fun j : Fin 16 => tileHas X Tv d c j f := by
  unfold coreHas tileHas
  rw [bigSep_sep', bigSep_sep']
  congr 1
  · exact ShareLeaves.pointsTo_leaves Finset.univ _ 4 (cq c)
  · congr 1
    · exact ShareLeaves.pointsTo_leaves Finset.univ _ 4 (cq c)
    · rw [← pointsTo_biUnion Finset.univ (ℓ := oLoc d) (fun j : Fin 16 => tileRows c.val j.val) (tileRows_disjoint c.val)]
      exact congrArg (fun S => (oLoc d ↦[S]{fullShare} f : sProp (MM F))) (tileRows_cover c.val c.isLt).symm

/-- The three arrays whole are the two cores' holdings. -/
theorem all_eq (d : Dev nD) (f : Buf (Elt F) (oLoc d)) :
    (iprop((xLoc d ↦{fullShare} xv (F := F) (X d) d) ∗ (tLoc d ↦{fullShare} tv (Tv d) d) ∗ (oLoc d ↦{fullShare} f)) : sProp (MM F))
      = bigSep Finset.univ fun c : Fin 2 => coreHas X Tv d c f := by
  unfold coreHas
  rw [bigSep_sep', bigSep_sep']
  congr 1
  · exact ShareLeaves.pointsTo_leaves Finset.univ _ 1 fullShare
  · congr 1
    · exact ShareLeaves.pointsTo_leaves Finset.univ _ 1 fullShare
    · rw [← pointsTo_biUnion Finset.univ (ℓ := oLoc d) (fun c : Fin 2 => coreRows c.val) coreRows_disjoint]
      exact congrArg (fun S => (oLoc d ↦[S]{fullShare} f : sProp (MM F))) coreRows_cover.symm

theorem bigSep_cores (Φ : Fin 2 → sProp (MM F)) :
    (bigSep Finset.univ fun c : Fin ((KK (F := F)).nCore 0) => Φ (Fin.cast nCore_zero c)) = bigSep Finset.univ Φ :=
  bigSep_congr fun _ _ => congrArg Φ (Fin.ext rfl)
theorem bigSep_tasks (Φ : Fin 16 → sProp (MM F)) :
    (bigSep Finset.univ fun i : Fin ((KK (F := F)).nSub 0) => Φ (Fin.cast nSub_zero i)) = bigSep Finset.univ Φ :=
  bigSep_congr fun _ _ => congrArg Φ (Fin.ext rfl)

theorem vecSplit : (KK (F := F)).VecSplit' (P m X Tv) 0 := by
  intro d c
  show coreHas X Tv d (Fin.cast nCore_zero c) (o0 m d) ⊢ |={Set.univ}=> iprop(
      (bigSep Finset.univ fun i : Fin ((KK (F := F)).nSub 0) => tileHas X Tv d (Fin.cast nCore_zero c) (Fin.cast nSub_zero i) (o0 m d))
      ∗ ((bigSep Finset.univ fun i : Fin ((KK (F := F)).nSub 0) => tileHas X Tv d (Fin.cast nCore_zero c) (Fin.cast nSub_zero i) (ov (X d) (Tv d) d))
          -∗ coreHas X Tv d (Fin.cast nCore_zero c) (ov (X d) (Tv d) d)))
  rw [bigSep_tasks (F := F) (fun i => tileHas X Tv d (Fin.cast nCore_zero c) i (o0 m d)),
    bigSep_tasks (F := F) (fun i => tileHas X Tv d (Fin.cast nCore_zero c) i (ov (X d) (Tv d) d)), ← coreHas_eq, ← coreHas_eq]
  iintro H; imodintro
  isplitl [H]; · iexact H
  iintro H; iexact H

/-! ## The task -/

section Tile

variable (d : Dev nD) (i : grid0.Coords)

abbrev vX : Memref sig .scVector .hbm S4096x256 .i32 := Memref.whole main_v1_scv
abbrev vT : Memref sig .scVector .hbm S500000x128 .f32 := Memref.whole main_v0_scv
abbrev vO : Memref sig .scVector .hbm S4096x128 .f32 := Memref.whole main_v2_scv

/-- The tile's scratch buffers and semaphores, among the subcore's own. -/
def scratchRefs : Finset (Ref sig .scVector) :=
  {cc0_scratch0, cc0_scratch1, cc0_scratch2, cc0_scratch3, cc0_scratch4, cc0_scratch5, cc0_scratch6, cc0_scratch7}
def scratchSems : Finset (SemLoc sig) :=
  {.dma cc0_scratch8.sem, .dma cc0_scratch9.sem, .dma cc0_scratch10.sem, .dma cc0_scratch11.sem, .dma cc0_scoped0.sem, .dma cc0_scoped1.sem}

def refEmb : Ref sig .scVector ↪ DevRef τ sig := ⟨(tid d i).2.devRef, Proc.devRef_injective _⟩
def semEmb : SemLoc sig ↪ GSem nD τ sig := ⟨fun s => (tid d i, s), fun _ _ h => (Prod.mk.inj h).2⟩

abbrev anyAt (b : Ref sig .scVector) : sProp (MM F) := iprop(∃ f : Buf (Elt F) ((tid d i).loc b), (tid d i).loc b ↦{fullShare} f)
abbrev zeroAt (s : SemLoc sig) : sProp (MM F) := semVal (tid d i, s) 0

theorem ownBufs_eq : (ownBufs (tid d i) : sProp (MM F))
    = iprop((anyAt d i cc0_scratch0 ∗ anyAt d i cc0_scratch1 ∗ anyAt d i cc0_scratch2 ∗ anyAt d i cc0_scratch3 ∗ anyAt d i cc0_scratch4
        ∗ anyAt d i cc0_scratch5 ∗ anyAt d i cc0_scratch6 ∗ anyAt d i cc0_scratch7)
      ∗ bigSep (ownRefs (τ := τ) (tid d i).2 \ scratchRefs.map (refEmb d i)) fun b => iprop(∃ f, ((d, b) : Loc nD τ sig) ↦{fullShare} f)) := by
  unfold SparseCore.Cfg.ownBufs
  have hsub : scratchRefs.map (refEmb d i) ⊆ ownRefs (τ := τ) (tid d i).2 := by
    intro b hb
    obtain ⟨r, hr, rfl⟩ := Finset.mem_map.mp hb
    simp only [scratchRefs, Finset.mem_insert, Finset.mem_singleton] at hr
    rcases hr with rfl | rfl | rfl | rfl | rfl | rfl | rfl | rfl <;> exact SparseCore.Cfg.mem_ownRefs_of_owner rfl
  refine (SparseCore.bigSep_sdiff_split' hsub).trans ?_
  congr 1
  rw [BI.bigSep_map]
  unfold scratchRefs
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

theorem ownSems0_eq : (ownSems0 (tid d i) : sProp (MM F))
    = iprop((zeroAt d i (.dma cc0_scratch8.sem) ∗ zeroAt d i (.dma cc0_scratch9.sem) ∗ zeroAt d i (.dma cc0_scratch10.sem) ∗ zeroAt d i (.dma cc0_scratch11.sem)
        ∗ zeroAt d i (.dma cc0_scoped0.sem) ∗ zeroAt d i (.dma cc0_scoped1.sem))
      ∗ bigSep (ownCells (tid d i) \ scratchSems.map (semEmb d i)) fun g => semVal g 0) := by
  unfold SparseCore.Cfg.ownSems0
  have hsc : ∀ s ∈ scratchSems, s.isScoped .scVector = true := by decide
  have hsub : scratchSems.map (semEmb d i) ⊆ ownCells (tid d i) := by
    intro g hg
    obtain ⟨s, hs, rfl⟩ := Finset.mem_map.mp hg
    exact mem_ownCells.mpr ⟨rfl, hsc s hs⟩
  refine (SparseCore.bigSep_sdiff_split' hsub).trans ?_
  congr 1
  rw [BI.bigSep_map]
  unfold scratchSems
  rw [SparseCore.bigSep_insert' (by decide), SparseCore.bigSep_insert' (by decide), SparseCore.bigSep_insert' (by decide), SparseCore.bigSep_insert' (by decide),
    SparseCore.bigSep_insert' (by decide), bigSep_singleton]
  rfl

/-- The tile's first row. -/
abbrev row0 : ℕ := 256 * (i 1).val + 128 * (i 0).val

theorem outRows_set : (outRows i vO).view.set = tileRows (i 0).val (i 1).val := by
  show ((View.whole (main_v2_scv : Ref sig .scVector)).slice (Rect.unit (s := S4096x128) (k0_off58 i) S128x128.size (k0_off58_inb i))).set = _
  rw [View.set_slice]
  refine Finset.map_refl.trans ?_
  ext x
  rw [Rect.mem_set_unit, k0_off58_eq]
  simp only [tileRows, Finset.mem_filter, Finset.mem_univ, true_and]
  have h1 : (x 1).val < 128 := (x 1).isLt
  constructor
  · intro h; have := h 0; simp at this; omega
  · intro h a
    match a with
    | 0 => simp; omega
    | 1 => simp; omega

theorem inRows_holds (X' : ℕ → ℕ → BitVec 32) :
    Holds2 (F := F) (inRows i vX) (xv (F := F) X' d) (fun a s => X' (row0 i + a) s) := by
  intro x
  have e : (inRows i vX).view.read (Elt F) (xv (F := F) X' d) x = spread (n := 4096) (m := 256) X' ((inRows i vX).view.emb x) :=
    (View.read_apply _ _).trans (cast_eq _ _)
  have e0 : (((inRows i vX).view.emb x) 0 : ℕ) = row0 i + (x 0).val := by
    show (k0_off1 i) 0 + 1 * (x 0).val = _
    rw [k0_off1_eq]; simp
  have e1 : (((inRows i vX).view.emb x) 1 : ℕ) = (x 1).val := by
    show (k0_off1 i) 1 + 1 * (x 1).val = _
    rw [k0_off1_eq]; simp
  rw [e]
  show X' _ _ = X' _ _
  rw [e0, e1]

theorem table_holds (Tv' : ℕ → ℕ → F .f32) : Holds2 (F := F) vT (tv Tv' d) Tv' := by
  intro x
  exact (View.read_apply _ _).trans (cast_eq _ _)

/-- A tile's rows at contents that read as its pooled sums are at the pooled sums. -/
theorem out_eq (X' : ℕ → ℕ → BitVec 32) (Tv' : ℕ → ℕ → F .f32) (f : Buf (Elt F) (oLoc d))
    (hf : Holds2 (F := F) (outRows i vO) f (pooled (fun a s => X' (row0 i + a) s) Tv')) :
    (oLoc d ↦[tileRows (i 0).val (i 1).val]{fullShare} f : sProp (MM F)) = oLoc d ↦[tileRows (i 0).val (i 1).val]{fullShare} ov X' Tv' d := by
  refine pointsTo_congr fun y hy => ?_
  rw [← outRows_set] at hy
  obtain ⟨x, -, rfl⟩ := Finset.mem_map.mp (by exact hy)
  have e0 : (((outRows i vO).view.emb x) 0 : ℕ) = row0 i + (x 0).val := by
    show (k0_off58 i) 0 + 1 * (x 0).val = _
    rw [k0_off58_eq]; simp
  have e1 : (((outRows i vO).view.emb x) 1 : ℕ) = (x 1).val := by
    show (k0_off58 i) 1 + 1 * (x 1).val = _
    rw [k0_off58_eq]; simp
  have h := hf x
  rw [View.read_apply, cast_eq] at h
  refine h.trans ?_
  show _ = pooled X' Tv' (((outRows i vO).view.emb x) 0 : ℕ) (((outRows i vO).view.emb x) 1 : ℕ)
  rw [e0, e1]
  rfl

/-- A read share of the table as the four that a tile's two slots read through. -/
theorem table_shares (q : PosShare TreeShare) (f : Buf (Elt F) (tLoc d)) :
    (tLoc d ↦{q} f : sProp (MM F)) = iprop((tLoc d ↦{ShareLeaves.leaf 2 q 0} f) ∗ (tLoc d ↦{ShareLeaves.leaf 2 q 1} f)
      ∗ (tLoc d ↦{ShareLeaves.leaf 2 q 2} f) ∗ (tLoc d ↦{ShareLeaves.leaf 2 q 3} f)) :=
  (ShareLeaves.pointsTo_leaves Finset.univ f 2 q).trans
    (bigSep_univ_eq_bigSepL [(0 : Fin 4), 1, 2, 3] (by decide) (by decide) fun k : Fin 4 => (tLoc d ↦{ShareLeaves.leaf 2 q k} f : sProp (MM F)))

abbrev cC : Fin 2 := ⟨(i 0).val, (i 0).isLt⟩
abbrev cJ : Fin 16 := ⟨(i 1).val, (i 1).isLt⟩

/-- The task on one tile. -/
theorem wp_tile (hw : ∀ a s, a < 4096 → s < 200 → (half (X d a s)).toNat < 500000) (O : CellTallies nD τ sig (HIx 1)) (W : Waits sig (HIx 1))
    (hO : ∀ g, O g none = 0) :
    iprop(levAts (KK (F := F)).L (KK (F := F)).lev ∗ emp ∗ tileHas X Tv d (cC i) (cJ i) (o0 m d)
        ∗ scopedBufs (tid d i) ∗ scopedSems0 (tid d i) ∗ owes (tid d i) O W)
      ⊢ twp d i Set.univ
          (cc0_sc_pool (F := F) i vX (Memref.isWhole_whole _) vT (Memref.isWhole_whole _) vO (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1)
          fun _ => iprop(tileHas X Tv d (cC i) (cJ i) (ov (X d) (Tv d) d) ∗ scopedBufs (tid d i) ∗ scopedSems0 (tid d i)
            ∗ ∃ W', ⌜∀ p ∈ W', p ∈ W ∨ p.2 = none⌝ ∗ owes (tid d i) O W') := by
  rw [(KK (F := F)).scopedBufs_V facts d _ _, SparseCore.Cfg.scopedSems0_V (Val := Elt F) d _ _, ownSems0_eq, ownBufs_eq]
  unfold tileHas
  rw [table_shares]
  have hi0 : (i 0).val < 2 := (i 0).isLt
  have hi1 : (i 1).val < 16 := (i 1).isLt
  have hwt : ∀ a s, a < 128 → s < 200 → (half ((fun a s => X d (row0 i + a) s) a s)).toNat < 500000 := fun a s ha hs => hw _ s (show 256 * (i 1).val + 128 * (i 0).val + a < 4096 by omega) hs
  iintro ⟨#Hlv, -, ⟨Hx, ⟨Ht0, Ht1, Ht2, Ht3⟩, Ho⟩, ⟨⟨B0, B1, B2, B3, B4, B5, B6, B7⟩, Hbufs⟩, ⟨⟨S8, S9, S10, S11, R0, R1⟩, Hsems⟩, HO⟩
  ihave Hmw := (show levAts (KK (F := F)).L (KK (F := F)).lev ⊢ Transfers.MayWaits (tid d i) (none : HIx 1) O from
    (KK (F := F)).mayWaits_none (thr := tid d i) hO) $$ Hlv
  ihave Hxs := (pointsTo_split_subset (q := tq (cC i) (cJ i)) (f := xv (F := F) (X d) d) (S := Finset.univ) (Finset.subset_univ (inRows i vX).view.set)).1 $$ Hx
  icases Hxs with ⟨Hxs, Hxr⟩
  iapply ((wp_body d i vX (Memref.isWhole_whole _) vT (Memref.isWhole_whole _) vO (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1
            (tv (Tv d) d) (ShareLeaves.leaf 2 (tq (cC i) (cJ i))) O W (q := tq (cC i) (cJ i)) (xv (F := F) (X d) d) (inRows_holds d i (X d))
            (table_holds d (Tv d)) hwt ⟨by decide, by decide⟩ ⟨by decide, by decide⟩).trans (wp_wand frame _ _)) $$ [Hmw Hxs Ht0 Ht1 Ht2 Ht3 Ho B0 B1 B2 B3 B4 B5 B6 B7 S8 S9 S10 S11 R0 R1 HO]
  · isplitl [Hmw]; · iexact Hmw
    isplitl [Hxs]; · iexact Hxs
    isplitl [Ho]
    · iexists (o0 m d)
      rw [outRows_set]
      iexact Ho
    isplitr [HO]
    · unfold Gear Idle
      isplitl [B1]; · iexact B1
      isplitl [B2]; · iexact B2
      isplitl [B3 B5 Ht0 Ht1 S8 S10]
      · isplitl [B3]; · iexact B3
        isplitl [B5]; · iexact B5
        isplitl [Ht0]; · iexact Ht0
        isplitl [Ht1]; · iexact Ht1
        isplitl [S8]; · iexact S8
        iexact S10
      isplitl [B4 B6 Ht2 Ht3 S9 S11]
      · isplitl [B4]; · iexact B4
        isplitl [B6]; · iexact B6
        isplitl [Ht2]; · iexact Ht2
        isplitl [Ht3]; · iexact Ht3
        isplitl [S9]; · iexact S9
        iexact S11
      isplitl [B0]; · iexact B0
      isplitl [B7]; · iexact B7
      isplitl [R0]; · iexact R0
      iexact R1
    · unfold Owes
      iexists W
      isplitr; · ipureintro; exact fun _ h => .inl h
      iexact HO
  unfold Gear Idle Owes
  iintro %_ ⟨Hxs, ⟨%fo, %hfo, Ho⟩, ⟨B1, B2, ⟨B3, B5, Ht0, Ht1, S8, S10⟩, ⟨B4, B6, Ht2, Ht3, S9, S11⟩, B0, B7, R0, R1⟩, HO⟩
  isplitl [Hxs Hxr Ht0 Ht1 Ht2 Ht3 Ho]
  · isplitl [Hxs Hxr]
    · iapply (pointsTo_split_subset (q := tq (cC i) (cJ i)) (f := xv (F := F) (X d) d) (S := Finset.univ) (Finset.subset_univ (inRows i vX).view.set)).2
      isplitl [Hxs] <;> iassumption
    isplitr [Ho]
    · isplitl [Ht0]; · iexact Ht0
      isplitl [Ht1]; · iexact Ht1
      isplitl [Ht2]; · iexact Ht2
      iexact Ht3
    · iapply (Entails.of_eq (out_eq d i (X d) (Tv d) fo hfo))
      rw [← outRows_set]
      iexact Ho
  isplitl [B0 B1 B2 B3 B4 B5 B6 B7 Hbufs]
  · isplitr [Hbufs]
    · isplitl [B0]; · iexact B0
      isplitl [B1]; · iexact B1
      isplitl [B2]; · iexact B2
      isplitl [B3]; · iexact B3
      isplitl [B4]; · iexact B4
      isplitl [B5]; · iexact B5
      isplitl [B6]; · iexact B6
      iexact B7
    · iexact Hbufs
  isplitl [S8 S9 S10 S11 R0 R1 Hsems]
  · isplitr [Hsems]
    · isplitl [S8]; · iexact S8
      isplitl [S9]; · iexact S9
      isplitl [S10]; · iexact S10
      isplitl [S11]; · iexact S11
      isplitl [R0]; · iexact R0
      iexact R1
    · iexact Hsems
  iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc_pool (F := F) (coordsV c s) vX (Memref.isWhole_whole _) vT (Memref.isWhole_whole _) vO (Memref.isWhole_whole _)
            (Memref.whole cc0_scratch0) (Memref.isWhole_whole _) (Memref.whole cc0_scratch1) (Memref.isWhole_whole _) (Memref.whole cc0_scratch2) (Memref.isWhole_whole _)
            (Memref.whole cc0_scratch3) (Memref.isWhole_whole _) (Memref.whole cc0_scratch4) (Memref.isWhole_whole _) (Memref.whole cc0_scratch5) (Memref.isWhole_whole _)
            (Memref.whole cc0_scratch6) (Memref.isWhole_whole _) (Memref.whole cc0_scratch7) (Memref.isWhole_whole _)
            cc0_scratch8 cc0_scratch9 cc0_scratch10 cc0_scratch11 cc0_scoped0 cc0_scoped1) ⟨⟩ c s := rfl

theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 16384 in
theorem tileObl (hw : ∀ d a s, a < 4096 → s < 200 → (half (X d a s)).toNat < 500000) : (KK (F := F)).TileObl (DD (F := F)) 𝒱₁ (P m X Tv) v₀ 0 := by
  intro d c i O W hO _ _
  simp only [show (P m X Tv).ox = fun _ _ => 0 from rfl, add_zero]
  have hci : ((KK (F := F)).core 0 c).val < grid0.bound 0 ∧ ((KK (F := F)).sub 0 i).val < grid0.bound 1 := ⟨c.isLt, i.isLt⟩
  change _ ⊢ wp _ _ _ (Pipeline.liftProg (defs₀ (F := F) (.scVector ((KK (F := F)).core 0 c) ((KK (F := F)).sub 0 i)) 0 ())) _
  refine BI.Entails.trans ?_ (Pipeline.wp_liftProg (DD (F := F)) (Pipeline.defs_kernel pcfgs defs₀) 𝒱₀ _ Set.univ none _ _)
  rw [defs₀_vector]; simp only [SparseCore.onTile, hci, and_self, ↓reduceDIte]
  exact (wp_tile m X Tv d (coordsV ⟨_, hci.1⟩ ⟨_, hci.2⟩) (hw d) O W hO).trans (wp_mono frame _ _ fun _ => obl_post)

end Tile

end Cert.Proof.KernelIdeal

end
-- ==== Proof.Mlp.lean ====
/-
  The dense layers' call. At each grid point the body reads its block of the pooled rows and the four weight arrays,
  and stores one block of the result; `mlp_runs` is that run, `dat` the pipeline's account of it, `region` the call
  from the TensorCore's buffers at one valuation to the same buffers with the result written.
-/
module

public import proofs.«01_k».proof.Proof.Deal
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameBody
public import Idealize.ShloMosaic.Lib.WholeRead

@[expose] public section

noncomputable section

namespace Cert.Proof.KernelIdeal

open Cert.KernelIdeal Cert.KernelIdeal.Gen

open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F] [Named F]

/-! ## The body -/

/-- The rectangle of a whole two-dimensional shape places an index at itself. -/
theorem all_emb {n m : ℕ} (inb) (y : (⟨2, ![n, m]⟩ : Shape).Idx) :
    (Rect.unit (s := ⟨2, ![n, m]⟩) ![0, 0] ![n, m] inb).emb y = y :=
  Rect.emb_eq_of_coords _ _ _ fun a => by
    fin_cases a <;> simp [Rect.unit]

theorem readAt_all {sp : Space} {e : EltTy} {κ : Kind} {n m : ℕ} (v : View sig κ sp ⟨2, ![n, m]⟩ e) (inb) (f : v.ty.Contents (Elt F)) :
    v.readAt (Elt F) (Rect.unit (s := ⟨2, ![n, m]⟩) ![0, 0] ![n, m] inb).toLoadRect f = v.read (Elt F) f := by
  funext y
  show v.read (Elt F) f ((Rect.unit (s := ⟨2, ![n, m]⟩) ![0, 0] ![n, m] inb).emb y) = _
  rw [all_emb]

theorem read_writes_all {sp : Space} {e : EltTy} {κ : Kind} {n m : ℕ} (v : View sig κ sp ⟨2, ![n, m]⟩ e) (f : v.ty.Contents (Elt F)) (inb)
    (w : (⟨2, ![n, m]⟩ : Shape).Idx → Elt F e) :
    v.read (Elt F) (v.writes (Elt F) f [⟨Rect.unit (s := ⟨2, ![n, m]⟩) ![0, 0] ![n, m] inb, w⟩]) = w := by
  funext y
  exact View.read_writes_cons_hit v f (Rect.unit (s := ⟨2, ![n, m]⟩) ![0, 0] ![n, m] inb) w [] y y (all_emb inb y)

theorem mlp_runs (c : Dev nD) (i : grid1.Coords) (M0 : Memref sig .tc .vmem S512x128 .f32) (h0 : M0.IsWhole) (M1 : Memref sig .tc .vmem S128x512 .f32) (h1 : M1.IsWhole)
    (M2 : Memref sig .tc .vmem S1x512 .f32) (h2 : M2.IsWhole) (M3 : Memref sig .tc .vmem S512x128 .f32) (h3 : M3.IsWhole) (M4 : Memref sig .tc .vmem S1x128 .f32) (h4 : M4.IsWhole)
    (M5 : Memref sig .tc .vmem S512x128 .f32) (h5 : M5.IsWhole)
    (x0 : Vec F S512x128 .f32) (x1 : Vec F S128x512 .f32) (x2 : Vec F S1x512 .f32) (x3 : Vec F S512x128 .f32) (x4 : Vec F S1x128 .f32) (x5 : Vec F S512x128 .f32)
    (Q : PUnit → sProp (MM F)) :
    iprop(owns (c : Thread nD τ) M0 fullShare x0 ∗ owns (c : Thread nD τ) M1 fullShare x1 ∗ owns (c : Thread nD τ) M2 fullShare x2 ∗ owns (c : Thread nD τ) M3 fullShare x3
        ∗ owns (c : Thread nD τ) M4 fullShare x4 ∗ owns (c : Thread nD τ) M5 fullShare x5
        ∗ ((owns (c : Thread nD τ) M0 fullShare x0 ∗ owns (c : Thread nD τ) M1 fullShare x1 ∗ owns (c : Thread nD τ) M2 fullShare x2 ∗ owns (c : Thread nD τ) M3 fullShare x3
            ∗ owns (c : Thread nD τ) M4 fullShare x4 ∗ owns (c : Thread nD τ) M5 fullShare (k1_pay1 x0 x1 x2 x3 x4)) -∗ Q ⟨⟩))
      ⊢ wp frame (wpE (defs₀ (F := F)) 𝒱₀ (c : Thread nD τ) none) Set.univ (cc1__mlp_body (F := F) i M0 h0 M1 h1 M2 h2 M3 h3 M4 h4 M5 h5) Q := by
  rw [cc1__mlp_body_eq_skeleton]
  unfold owns
  iintro ⟨⟨%f0, %e0, H0⟩, ⟨%f1, %e1, H1⟩, ⟨%f2, %e2, H2⟩, ⟨%f3, %e3, H3⟩, ⟨%f4, %e4, H4⟩, ⟨%f5, %e5, H5⟩, Hk⟩
  unfold cc1__mlp_body_skel
  sl_exec!
  sl_step
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  isplitl [H3]; · iexists f3; isplitr; (· ipureintro; exact e3); iexact H3
  isplitl [H4]; · iexists f4; isplitr; (· ipureintro; exact e4); iexact H4
  iexists _; isplitr; swap; (· iexact H5)
  ipureintro
  unfold mlp_runs.sl.H5_1
  subst e0 e1 e2 e3 e4
  rw [readAt_all, readAt_all, readAt_all, readAt_all, readAt_all]
  exact read_writes_all M5.view M5.view.junk _ _

/-! ## The pipeline's account -/

section Call

variable (Vv : (c : Dev nD) → (b : Ref sig .tc) → Buf (Elt F) ((c : Thread nD τ).loc b))

/-- Window `w`'s block at point `t`, of the arrays at `Vv`. -/
abbrev blkOf (c : Dev nD) (w : Fin 6) (t : Fin cfg1.N) : ((cfg1.win w).xblock (cfg1.grid.coords t)).Idx → Elt F (cfg1.win w).elt :=
  ((cfg1.win w).blk t).view.read (Elt F) (Vv c (Pipeline.arrRef spec1 w))

/-- The result's block at point `t`. -/
abbrev layer (c : Dev nD) (t : Fin cfg1.N) : Vec F S512x128 .f32 :=
  k1_pay1 (blkOf Vv c 0 t) (blkOf Vv c 1 t) (blkOf Vv c 2 t) (blkOf Vv c 3 t) (blkOf Vv c 4 t)

/-- What the call leaves alone in scoped memory. -/
abbrev rest (c : Dev nD) : sProp (MM F) := Pipeline.scopedRest (Ix := HIx 1) (Name := ℕ) (U := UU) (Lvl := ℕ) (Val := Elt F) spec1 c

/-- The five operands' buffers keep their blocks, the result's is left at `layer`; nothing is owed. -/
def dat (c : Dev nD) : Dat τ (Elt F) (HIx 1) ℕ UU ℕ cfg1 c where
  A w := Vv c (Pipeline.arrRef spec1 w)
  after w t := match w with
    | ⟨0, _⟩ => blkOf Vv c 0 t
    | ⟨1, _⟩ => blkOf Vv c 1 t
    | ⟨2, _⟩ => blkOf Vv c 2 t
    | ⟨3, _⟩ => blkOf Vv c 3 t
    | ⟨4, _⟩ => blkOf Vv c 4 t
    | ⟨5, _⟩ => layer Vv c t
  Φ _ := rest c
  q _ := fullShare
  owed _ := 0

theorem before_0 (c : Dev nD) (t : Fin cfg1.N) (d) : (dat Vv c).before 0 t d = blkOf Vv c 0 t :=
  (dat Vv c).before_in_eq_fetched 0 rfl (fun _ => rfl) (fun _ _ _ => rfl) (fun _ => rfl) t d
theorem before_1 (c : Dev nD) (t : Fin cfg1.N) (d) : (dat Vv c).before 1 t d = blkOf Vv c 1 t :=
  (dat Vv c).before_in_eq_fetched 1 rfl (fun _ => rfl) (fun _ _ _ => rfl) (fun _ => rfl) t d
theorem before_2 (c : Dev nD) (t : Fin cfg1.N) (d) : (dat Vv c).before 2 t d = blkOf Vv c 2 t :=
  (dat Vv c).before_in_eq_fetched 2 rfl (fun _ => rfl) (fun _ _ _ => rfl) (fun _ => rfl) t d
theorem before_3 (c : Dev nD) (t : Fin cfg1.N) (d) : (dat Vv c).before 3 t d = blkOf Vv c 3 t :=
  (dat Vv c).before_in_eq_fetched 3 rfl (fun _ => rfl) (fun _ _ _ => rfl) (fun _ => rfl) t d
theorem before_4 (c : Dev nD) (t : Fin cfg1.N) (d) : (dat Vv c).before 4 t d = blkOf Vv c 4 t :=
  (dat Vv c).before_in_eq_fetched 4 rfl (fun _ => rfl) (fun _ _ _ => rfl) (fun _ => rfl) t d

theorem mlp_point (c : Dev nD) : BodyObligation (dat Vv c) (defs₀ (F := F)) 𝒱₀ (none : HIx 1) Set.univ := fun t => by
  rw [bigSep_W1, bigSep_W1]
  show iprop(rest c ∗ (dat Vv c).owesAt (none : HIx 1) t.castSucc ∗ (∃ d, owns (c : Thread nD τ) (st1_0 t) fullShare ((dat Vv c).before 0 t d)) ∗ (∃ d, owns (c : Thread nD τ) (st1_1 t) fullShare ((dat Vv c).before 1 t d)) ∗ (∃ d, owns (c : Thread nD τ) (st1_2 t) fullShare ((dat Vv c).before 2 t d)) ∗ (∃ d, owns (c : Thread nD τ) (st1_3 t) fullShare ((dat Vv c).before 3 t d)) ∗ (∃ d, owns (c : Thread nD τ) (st1_4 t) fullShare ((dat Vv c).before 4 t d)) ∗ (∃ d, owns (c : Thread nD τ) (st1_5 t) fullShare ((dat Vv c).before 5 t d)))
    ⊢ wp frame (wpE (defs₀ (F := F)) 𝒱₀ (c : Thread nD τ) none) Set.univ (bodyAt1 t) fun _ =>
      iprop(rest c ∗ (dat Vv c).owesAt (none : HIx 1) t.castSucc ∗ owns (c : Thread nD τ) (st1_0 t) fullShare (blkOf Vv c 0 t) ∗ owns (c : Thread nD τ) (st1_1 t) fullShare (blkOf Vv c 1 t) ∗ owns (c : Thread nD τ) (st1_2 t) fullShare (blkOf Vv c 2 t) ∗ owns (c : Thread nD τ) (st1_3 t) fullShare (blkOf Vv c 3 t) ∗ owns (c : Thread nD τ) (st1_4 t) fullShare (blkOf Vv c 4 t) ∗ owns (c : Thread nD τ) (st1_5 t) fullShare (layer Vv c t))
  iintro ⟨HΦ, Howes, ⟨%d0, H0⟩, ⟨%d1, H1⟩, ⟨%d2, H2⟩, ⟨%d3, H3⟩, ⟨%d4, H4⟩, ⟨%d5, H5⟩⟩
  rw [before_0, before_1, before_2, before_3, before_4]
  iapply (mlp_runs c (grid1.coords t) (st1_0 t) (hstage1_0 ((cfg1.slots t 0).cast nbuf1_0)) (st1_1 t) (hstage1_1 ((cfg1.slots t 1).cast nbuf1_1)) (st1_2 t) (hstage1_2 ((cfg1.slots t 2).cast nbuf1_2)) (st1_3 t) (hstage1_3 ((cfg1.slots t 3).cast nbuf1_3)) (st1_4 t) (hstage1_4 ((cfg1.slots t 4).cast nbuf1_4)) (st1_5 t) (hstage1_5 ((cfg1.slots t 5).cast nbuf1_5)) (blkOf Vv c 0 t) (blkOf Vv c 1 t) (blkOf Vv c 2 t) (blkOf Vv c 3 t) (blkOf Vv c 4 t) ((dat Vv c).before 5 t d5) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  iexact H5

/-! ## The call -/

abbrev adm : (p : Fin 1) → (pcfgs (F := F) p).Adm := fun q => (cfgs q).toPCfg_adm

def pdats : (p : Fin 1) → (c : Dev nD) → Dat τ (Elt F) (HIx 1) ℕ UU ℕ (Pipeline.pin (pcfgs (F := F)) adm p) c
  | ⟨0, _⟩ => fun c => dat Vv c

/-- The result's array after the call. -/
def layered (c : Dev nD) : Buf (Elt F) ((c : Thread nD τ).loc main_v7) := (dat Vv c).arrAt 5 cfg1.N

-- the library's entry and exit lemmas name the pinned configuration; matching it against this one needs plain definitions unfolded
set_option backward.isDefEq.respectTransparency.types false in
/-- The call from the unscoped buffers at `Vv` to the same at any `Vp` that is `Vv` with the result's array at `layered`. -/
def region (Vp : (c : Dev nD) → (b : Ref sig .tc) → Buf (Elt F) ((c : Thread nD τ).loc b)) (hout : ∀ c, Vp c main_v7 = layered Vv c)
    (hne : ∀ c (b : Ref sig .tc), b ≠ main_v7 → Vp c b = Vv c b) :
    Pipeline.RegionSeg (pcfgs (F := F)) adm (pdats Vv) (none : HIx 1) defs₀ 𝒱₀ (KK (F := F)).L (KK (F := F)).lev 0 where
  win := launch1.win.to₀
  block_pos := launch1.block_pos
  stage_whole := launch1.stage_whole
  K := PEmpty
  osem k := k.elim
  ho := Pipeline.OwnSemFacts.none _
  hbody c := (mlp_point Vv c).loose
  hwaits := Pipeline.hwaits_of_owed_zero _ _ _ _ (KK (F := F)).L (KK (F := F)).lev 0 fun _ _ => rfl
  pre c := iprop(unscopedBufs c (Vv c) ∗ ∃ W, owes (c : Thread nD τ) (0 : CellTallies nD τ sig (HIx 1)) W)
  post c := iprop(unscopedBufs c (Vp c) ∗ ∃ W, owes (c : Thread nD τ) (0 : CellTallies nD τ sig (HIx 1)) W)
  X _ := BI.emp
  Y _ := BI.emp
  Z c := Pipeline.unscopedRest (Ix := HIx 1) (Name := ℕ) (U := UU) (Lvl := ℕ) spec1 c (Vv c)
  hentry c := by
    rw [Pipeline.ownSems0_none]
    iintro ⟨⟨Hub, HO⟩, -, -⟩
    ihave H := (Pipeline.arrays_of_unscopedBufs (p := 0) (pcfgs (F := F)) adm (pdats Vv) launch1.win launch1.arr_whole c
      ((pdats Vv 0 c).share_full fun _ => rfl) (Vv c) fun _ => rfl) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats Vv 0 c).Φ 0 = rest c from rfl]
    iintro ⟨-, -, Hr⟩; iexact Hr
  hout c := by
    rw [Pipeline.ownSems0_none, show (pdats Vv 0 c).Φ (Fin.last _) = rest c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats Vv) ((pdats Vv 0 c).share_full fun _ => rfl) (Vv c) (Vp c) ((pdats Vv 0 c).arrAt · cfg1.N)
      (fun w => by
        fin_cases w
        · exact ((pdats Vv 0 c).arrAt_in 0 rfl _).trans (hne c main_v2 (by decide)).symm
        · exact ((pdats Vv 0 c).arrAt_in 1 rfl _).trans (hne c main_v4 (by decide)).symm
        · exact ((pdats Vv 0 c).arrAt_in 2 rfl _).trans (hne c main_v5 (by decide)).symm
        · exact ((pdats Vv 0 c).arrAt_in 3 rfl _).trans (hne c main_arg4 (by decide)).symm
        · exact ((pdats Vv 0 c).arrAt_in 4 rfl _).trans (hne c main_v6 (by decide)).symm
        · exact (hout c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end Call

end Cert.Proof.KernelIdeal

end
-- ==== Proof.Host.lean ====
/-
  @main on the TensorCore, and the program's run. The host's operations before the SparseCore call are `opsA`, those
  between the two calls `opsB`; `W0` … `W4` are the TensorCore's buffers at launch, after `opsA`, after the SparseCore
  call, after `opsB` and after the dense layers. `run_main`: every run ends with those buffers at `W4` and every
  semaphore at zero.
-/
module

public import proofs.«01_k».proof.Proof.Mlp
public import Idealize.ShloMosaic.Lib.StableHlo.Run
public import Idealize.ShloMosaic.Lib.SparseCore.Quiescent

@[expose] public section

noncomputable section

namespace Cert.Proof.KernelIdeal

open Cert.KernelIdeal Cert.KernelIdeal.Gen

open Idealize.ShloMosaic Idealize.ShloMosaic.ValueIdx
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat cellOf)

variable {F : FTy → Type} [FloatOps F] [Named F]

/-! ## The program's lines -/

def opsA : List (HloOp τ sig (Elt F)) :=
  [StableHlo.reshape main_arg1 main_v0 (rfl : (.f32 : EltTy) = .f32) shapeCasts_S1000000x64_S500000x128,
   StableHlo.nullary main_c (constantI S_ 32 0#32),
   StableHlo.TRef.unary (.of main_c : StableHlo.TRef sig ⟨S_, .i32⟩) main_call0.v0 id,
   StableHlo.TRef.binary (.of main_arg0 : StableHlo.TRef sig ⟨S4096x200, .i32⟩) main_call0.v0 main_call0.v1 (fun x v => pad S4096x256 ![0, 0] ![0, 56] ![0, 0] x v pads_S4096x200_S4096x256_000_0560 h_S_)]

def opsB : List (HloOp τ sig (Elt F)) :=
  [StableHlo.nullary main_cst (constant S_ .f32 0x00000000#32),
   StableHlo.unary main_cst main_v3 (broadcastInDim S64x512 ![] bcast_S_S64x512 : (⟨S_, .f32⟩ : BufTy).Contents (Elt F) → (⟨S64x512, .f32⟩ : BufTy).Contents (Elt F)),
   StableHlo.binary main_arg2 main_v3 main_v4 ((fun a b => concatenate S128x512 0 [⟨S64x512, a⟩, ⟨S64x512, b⟩] concatenates_S64x512_S64x512_S128x512_d0) : (⟨S64x512, .f32⟩ : BufTy).Contents (Elt F) → (⟨S64x512, .f32⟩ : BufTy).Contents (Elt F) → (⟨S128x512, .f32⟩ : BufTy).Contents (Elt F)),
   StableHlo.reshape main_arg3 main_v5 (rfl : (.f32 : EltTy) = .f32) shapeCasts_S512_S1x512,
   StableHlo.reshape main_arg5 main_v6 (rfl : (.f32 : EltTy) = .f32) shapeCasts_S128_S1x128]

theorem main_eq (d : Dev nD) : main (F := F) d = (StableHlo.seq opsA >>= fun _ => (KK (F := F)).run d 0 >>= fun _ => StableHlo.seq opsB >>= fun _ =>
    SparseCore.liftProg (.op (.customCall (Pipeline.entry 0) ()) .ret)) := rfl

/-- The TensorCore's unscoped buffers. -/
def ucRefs : Finset (DevRef τ sig) := (StableHlo.tcRefs τ sig).filter fun b => ¬ b.isScoped

theorem unscoped_held (d : Dev nD) (W : Valuation τ sig (Elt F)) :
    (unscopedBufs d (fun b => W b) : sProp (MM F)) = StableHlo.held (T d : Thread nD τ) ucRefs W := by
  unfold unscopedBufs StableHlo.held ucRefs StableHlo.tcRefs
  rw [Finset.filter_map, bigSep_map]
  rfl

theorem mem_ucRefs {b : Ref sig .tc} (h : b.isScoped = false) : (Proc.devRef .tc b : DevRef τ sig) ∈ ucRefs :=
  Finset.mem_filter.mpr ⟨StableHlo.devRef_mem_tcRefs b, by
    rw [show (Proc.devRef .tc b : DevRef τ sig).isScoped = b.isScoped from rfl, h]; decide⟩

theorem sub_one {y : Ref sig .tc} (hy : y.isScoped = false) : ({Proc.devRef .tc y} : Finset (DevRef τ sig)) ⊆ ucRefs :=
  Finset.singleton_subset_iff.mpr (mem_ucRefs hy)
theorem sub_two {x y : Ref sig .tc} (hx : x.isScoped = false) (hy : y.isScoped = false) :
    ({Proc.devRef .tc x, Proc.devRef .tc y} : Finset (DevRef τ sig)) ⊆ ucRefs :=
  Finset.insert_subset (mem_ucRefs hx) (sub_one hy)
theorem sub_three {x y z : Ref sig .tc} (hx : x.isScoped = false) (hy : y.isScoped = false) (hz : z.isScoped = false) :
    ({Proc.devRef .tc x, Proc.devRef .tc y, Proc.devRef .tc z} : Finset (DevRef τ sig)) ⊆ ucRefs :=
  Finset.insert_subset (mem_ucRefs hx) (sub_two hy hz)

theorem opsA_bufs : ∀ op ∈ opsA (F := F), op.bufs ⊆ ucRefs :=
  List.forall_mem_cons.mpr ⟨sub_two (x := main_arg1) (y := main_v0) rfl rfl, List.forall_mem_cons.mpr ⟨sub_one (y := main_c) rfl,
    List.forall_mem_cons.mpr ⟨sub_two (x := main_c) (y := main_call0_v0) rfl rfl,
      List.forall_mem_cons.mpr ⟨sub_three (x := main_arg0) (y := main_call0_v0) (z := main_v1) rfl rfl rfl, fun _ h => absurd h List.not_mem_nil⟩⟩⟩⟩

theorem opsB_bufs : ∀ op ∈ opsB (F := F), op.bufs ⊆ ucRefs :=
  List.forall_mem_cons.mpr ⟨sub_one (y := main_cst) rfl, List.forall_mem_cons.mpr ⟨sub_two (x := main_cst) (y := main_v3) rfl rfl,
    List.forall_mem_cons.mpr ⟨sub_three (x := main_arg2) (y := main_v3) (z := main_v4) rfl rfl rfl,
      List.forall_mem_cons.mpr ⟨sub_two (x := main_arg3) (y := main_v5) rfl rfl,
        List.forall_mem_cons.mpr ⟨sub_two (x := main_arg5) (y := main_v6) rfl rfl, fun _ h => absurd h List.not_mem_nil⟩⟩⟩⟩⟩

theorem opsA_fresh : ∀ op ∈ opsA (F := F), op.fresh = ∅ :=
  List.forall_mem_cons.mpr ⟨rfl, List.forall_mem_cons.mpr ⟨rfl, List.forall_mem_cons.mpr ⟨rfl, List.forall_mem_cons.mpr ⟨rfl, fun _ h => absurd h List.not_mem_nil⟩⟩⟩⟩

theorem opsB_fresh : ∀ op ∈ opsB (F := F), op.fresh = ∅ :=
  List.forall_mem_cons.mpr ⟨rfl, List.forall_mem_cons.mpr ⟨rfl, List.forall_mem_cons.mpr ⟨rfl, List.forall_mem_cons.mpr ⟨rfl,
    List.forall_mem_cons.mpr ⟨rfl, fun _ h => absurd h List.not_mem_nil⟩⟩⟩⟩⟩

/-! ## The buffers along the way -/

variable (m : (ℓ : Loc nD τ sig) → Buf (Elt F) ℓ)

/-- A two-dimensional array as a function of two numbers, `z` outside it. -/
def lookup {n k : ℕ} {A : Type} (z : A) (f : (⟨2, ![n, k]⟩ : Shape).Idx → A) (a s : ℕ) : A :=
  if h : a < n ∧ s < k then f (ix2 ⟨a, h.1⟩ ⟨s, h.2⟩) else z

theorem spread_lookup {n k : ℕ} {A : Type} (z : A) (f : (⟨2, ![n, k]⟩ : Shape).Idx → A) : spread (lookup z f) = f := by
  funext x
  unfold spread lookup
  rw [dif_pos ⟨idx2_lt0 x, idx2_lt1 x⟩]
  exact congrArg f (eq_ix2 x).symm

def W0 (d : Dev nD) : Valuation τ sig (Elt F) := fun b => m (d, b)
def W1 (d : Dev nD) : Valuation τ sig (Elt F) := StableHlo.after opsA (W0 m d)

/-- The padded indices and the table's rows of 128 as the SparseCore call finds them. -/
def X1 (d : Dev nD) : ℕ → ℕ → BitVec 32 := lookup (n := 4096) (k := 256) 0 (W1 m d main_v1)
def T1 (d : Dev nD) : ℕ → ℕ → F .f32 := lookup (n := 500000) (k := 128) (FloatOps.ofBits .f32 0#32) (W1 m d main_v0)

theorem X1_eq (d : Dev nD) : xv (F := F) (X1 m d) d = W1 m d main_v1 := spread_lookup _ _
theorem T1_eq (d : Dev nD) : tv (T1 m d) d = W1 m d main_v0 := spread_lookup _ _

abbrev o2 (d : Dev nD) : Buf (Elt F) (oLoc d) := ov (X1 m d) (T1 m d) d

def W2 (d : Dev nD) : Valuation τ sig (Elt F) := Function.update (W1 m d) main_v2 (o2 m d)
def W3 (d : Dev nD) : Valuation τ sig (Elt F) := StableHlo.after opsB (W2 m d)
abbrev V3 (d : Dev nD) (b : Ref sig .tc) : Buf (Elt F) ((T d : Thread nD τ).loc b) := W3 m d b
def W4 (d : Dev nD) : Valuation τ sig (Elt F) := Function.update (W3 m d) main_v7 (layered (V3 m) d)
abbrev V4 (d : Dev nD) (b : Ref sig .tc) : Buf (Elt F) ((T d : Thread nD τ).loc b) := W4 m d b

/-! ## The SparseCore call's three arrays among the buffers -/

def callRefs : Finset (DevRef τ sig) := {Proc.devRef .tc main_v1, Proc.devRef .tc main_v0, Proc.devRef .tc main_v2}

theorem callRefs_sub : callRefs ⊆ ucRefs := sub_three (x := main_v1) (y := main_v0) (z := main_v2) rfl rfl rfl

theorem call_held (d : Dev nD) (W : Valuation τ sig (Elt F)) :
    (StableHlo.held (T d : Thread nD τ) callRefs W : sProp (MM F))
      = iprop((xLoc d ↦{fullShare} W main_v1) ∗ (tLoc d ↦{fullShare} W main_v0) ∗ (oLoc d ↦{fullShare} W main_v2)) := by
  unfold StableHlo.held callRefs
  rw [SparseCore.bigSep_insert' (by decide), SparseCore.bigSep_insert' (by decide), bigSep_singleton]

theorem W1_v2 (d : Dev nD) : W1 m d main_v2 = o0 m d :=
  StableHlo.after_of_forall_not_mem _ _ (List.forall_mem_cons.mpr ⟨Finset.notMem_singleton.mpr (by decide), List.forall_mem_cons.mpr ⟨Finset.notMem_singleton.mpr (by decide),
    List.forall_mem_cons.mpr ⟨Finset.notMem_singleton.mpr (by decide), List.forall_mem_cons.mpr ⟨Finset.notMem_singleton.mpr (by decide), fun _ h => absurd h List.not_mem_nil⟩⟩⟩⟩)

/-- What the call is handed, of the buffers at `W1`. -/
theorem call_pre (d : Dev nD) :
    (StableHlo.held (T d : Thread nD τ) callRefs (W1 m d) : sProp (MM F))
      = bigSep Finset.univ fun c : Fin ((KK (F := F)).nCore 0) => (P m (X1 m) (T1 m)).st 0 d c := by
  rw [call_held, ← X1_eq, ← T1_eq, W1_v2]
  exact (all_eq (X1 m) (T1 m) d (o0 m d)).trans (bigSep_cores (F := F) fun c => coreHas (X1 m) (T1 m) d c (o0 m d)).symm

theorem W2_ne (d : Dev nD) {b : DevRef τ sig} (h : b ≠ Proc.devRef .tc main_v2) : W2 m d b = W1 m d b := Function.update_of_ne h _ _
theorem W2_v2 (d : Dev nD) : W2 m d main_v2 = o2 m d := Function.update_self _ _ _
theorem W4_ne (d : Dev nD) {b : DevRef τ sig} (h : b ≠ Proc.devRef .tc main_v7) : W4 m d b = W3 m d b := Function.update_of_ne h _ _
theorem W4_v7 (d : Dev nD) : W4 m d main_v7 = layered (V3 m) d := Function.update_self _ _ _

/-- What it hands back, of the buffers at `W2`. -/
theorem call_post (d : Dev nD) :
    (StableHlo.held (T d : Thread nD τ) callRefs (W2 m d) : sProp (MM F))
      = bigSep Finset.univ fun c : Fin ((KK (F := F)).nCore 0) => (P m (X1 m) (T1 m)).dn 0 d c := by
  rw [call_held, W2_v2, W2_ne m d (b := main_v1) (by decide), W2_ne m d (b := main_v0) (by decide), ← X1_eq, ← T1_eq]
  exact (all_eq (X1 m) (T1 m) d (o2 m d)).trans (bigSep_cores (F := F) fun c => coreHas (X1 m) (T1 m) d c (o2 m d)).symm

theorem call_rest (d : Dev nD) :
    (StableHlo.held (T d : Thread nD τ) (ucRefs \ callRefs) (W1 m d) : sProp (MM F)) = StableHlo.held (T d : Thread nD τ) (ucRefs \ callRefs) (W2 m d) :=
  StableHlo.held_congr _ fun b hb => (W2_ne m d fun h => (Finset.mem_sdiff.mp hb).2 (by rw [h]; decide)).symm

/-! ## The ghost state at launch -/

/-- The dense layers' rounds, in the certificate's algebra. -/
abbrev EP : Emb (UR sig nD τ) (MM F) := (Emb.inl : Emb (UR sig nD τ) (UR sig nD τ × Counters)).trans (embR : Emb (UR sig nD τ × Counters) (MM F))

abbrev pinned : (p : Fin 1) → Pipeline.Cfg sig Λ₀ := Pipeline.pin (pcfgs (F := F)) adm

theorem pinned_inj : Function.Injective (cellOf (nD := nD) (τ := τ) (pinned (F := F))) := cellOf_inj

def u₀ : UU := (initOf (KK (F := F)).hsCells (KK (F := F)).hsToks,
  (initOf (Pipeline.cells (pinned (F := F)) pinned_inj) (Pipeline.launchToks (pinned (F := F)) pinned_inj), 1))

/-- What the dense layers' call on core `d` takes of it. -/
def G (d : Dev nD) : sProp (MM F) := iprop(Pipeline.cellsGhost (pinned (F := F)) EP 0 d ∗ Pipeline.toksInit (pinned (F := F)) EP 0 d)

theorem G_of (d : Dev nD) : iprop((bigSep Finset.univ fun p : Fin 1 => Pipeline.cellsGhost (pinned (F := F)) EP p d)
    ∗ (bigSep Finset.univ fun p : Fin 1 => (Pipeline.toksInit (pinned (F := F)) EP p d : sProp (MM F)))) = G (F := F) d := by
  rw [bigSep_univ_of_subsingleton (0 : Fin 1), bigSep_univ_of_subsingleton (0 : Fin 1)]
  rfl

variable (X : Dev nD → ℕ → ℕ → BitVec 32) (Tv : Dev nD → ℕ → ℕ → F .f32)

theorem hu₀ : (ownU (u₀ (F := F)) : sProp (MM F))
    ⊢ |={Set.univ}=> iprop(BI.own (EH (F := F) (initOf (KK (F := F)).hsCells (KK (F := F)).hsToks)) ∗ (bigSep Finset.univ fun d : Dev nD => G (F := F) d)
        ∗ bigSep Finset.univ fun thr : Thread nD τ => bigSep Finset.univ fun q : Fin 1 => (P m X Tv).x q thr) := by
  unfold u₀
  iintro Hu
  ihave H := (ownU_pair (initOf (KK (F := F)).hsCells (KK (F := F)).hsToks)
    ((initOf (Pipeline.cells (pinned (F := F)) pinned_inj) (Pipeline.launchToks (pinned (F := F)) pinned_inj), 1) : UR sig nD τ × Counters)) $$ Hu
  icases H with ⟨HH, HR⟩
  ihave H := (own_pair_emb (embR : Emb (UR sig nD τ × Counters) (MM F))
    (initOf (Pipeline.cells (pinned (F := F)) pinned_inj) (Pipeline.launchToks (pinned (F := F)) pinned_inj)) (1 : Counters)) $$ HR
  icases H with ⟨HP, -⟩
  imod (Pipeline.fund_ghost (pinned (F := F)) (EP (F := F)) pinned_inj) $$ HP with ⟨HG, HT⟩
  imodintro
  isplitl [HH]; · iexact HH
  isplitl [HG HT]
  · rw [← bigSep_congr fun d _ => G_of (F := F) d, bigSep_sep']
    isplitl [HG] <;> iassumption
  rw [show (bigSep Finset.univ fun thr : Thread nD τ => bigSep Finset.univ fun q : Fin 1 => (P m X Tv).x q thr) = bigSep Finset.univ fun _ => (BI.emp : sProp (MM F)) from
    bigSep_congr fun _ _ => bigSep_univ_of_subsingleton (0 : Fin 1), bigSep_emp_const]
  iempintro

/-! ## @main -/

variable (ρ : Dev nD → PrngReg)

/-- What @main keeps to the end: its buffers. -/
abbrev FIN (d : Dev nD) : sProp (MM F) := StableHlo.held (T d : Thread nD τ) ucRefs (W4 m d)

theorem V4_held (d : Dev nD) : (unscopedBufs d (V4 m d) : sProp (MM F)) = StableHlo.held (T d : Thread nD τ) ucRefs (W4 m d) := unscoped_held d (W4 m d)
theorem V3_held (d : Dev nD) : (unscopedBufs d (V3 m d) : sProp (MM F)) = StableHlo.held (T d : Thread nD τ) ucRefs (W3 m d) := unscoped_held d (W3 m d)

/-- The dense layers' call, from the buffers at `W3` to the buffers at `W4`. -/
def dense : Pipeline.RegionSeg (pcfgs (F := F)) adm (pdats (V3 m)) (none : HIx 1) defs₀ 𝒱₀ (KK (F := F)).L (KK (F := F)).lev 0 :=
  region (V3 m) (V4 m) (fun c => W4_v7 m c) fun c b h => W4_ne m c fun e => h (Proc.devRef_injective _ e)

theorem dense_pre (d : Dev nD) : (dense m).pre d = iprop(unscopedBufs d (V3 m d) ∗ ∃ W, owes (d : Thread nD τ) (0 : CellTallies nD τ sig (HIx 1)) W) := rfl
theorem dense_post (d : Dev nD) : (dense m).post d = iprop(unscopedBufs d (V4 m d) ∗ ∃ W, owes (d : Thread nD τ) (0 : CellTallies nD τ sig (HIx 1)) W) := rfl

theorem below_one (d : Dev nD) (W : Waits sig (HIx 1)) {b : ℕ} (hb : 8 ≤ b) : (KK (F := F)).WBelow (T d) W b := by
  intro p _
  match p.2 with
  | none => exact Nat.zero_le _
  | some q => exact ((KK (F := F)).lev_some_le _ q).trans (by have := q.isLt; omega)

theorem held_W1 (d : Dev nD) : (StableHlo.held (d.tc : Thread nD τ) ucRefs (StableHlo.after opsA (W0 m d)) : sProp (MM F))
    = iprop(StableHlo.held (T d : Thread nD τ) callRefs (W1 m d) ∗ StableHlo.held (T d : Thread nD τ) (ucRefs \ callRefs) (W1 m d)) :=
  StableHlo.held_sub_split (T d : Thread nD τ) callRefs_sub (W1 m d)
theorem held_W3 (d : Dev nD) : (StableHlo.held (d.tc : Thread nD τ) ucRefs (StableHlo.after opsB (W2 m d)) : sProp (MM F))
    = StableHlo.held (T d : Thread nD τ) ucRefs (W3 m d) := rfl

theorem hmain [∀ e, Nonempty (Elt F e)] (κ : GSem nD τ sig → ℕ) (d : Dev nD) :
    iprop((KK (F := F)).ctx EH (P m (X1 m) (T1 m)) κ ∗ (KK (F := F)).tcSt EH d 0 ∗ (KK (F := F)).tcRes m ρ d ∗ G (F := F) d)
      ⊢ wp frame (wpE ((KK (F := F)).defs DD) 𝒱₁ (T d) none) Set.univ (main d)
          fun _ => iprop((KK (F := F)).tcSt EH d 1 ∗ FIN m d ∗ (KK (F := F)).tcEnd d) := by
  unfold SparseCore.Cfg.tcRes SparseCore.Cfg.tcEnd G
  rw [show (unscopedBufs d (fun b => m ((SparseCore.T d : Thread nD τ).loc b)) : sProp (MM F)) = StableHlo.held (T d : Thread nD τ) ucRefs (W0 m d) from unscoped_held d (W0 m d), main_eq]
  iintro ⟨#Hctx, Hst, ⟨Hb, Hub, Hsem, -⟩, Hcg, Htk⟩
  iapply (StableHlo.wp_seq 𝒱₁ none Set.univ d ucRefs _ opsA opsA_bufs opsA_fresh (W0 m d)) $$ [Hb Hub]
  · isplitl [Hb] <;> iassumption
  iintro ⟨Hb, Hub⟩
  ihave Hub := (Entails.of_eq (held_W1 m d)) $$ Hub
  icases Hub with ⟨Hcall, Hrest⟩
  ihave Hcall := (Entails.of_eq (call_pre m d)) $$ Hcall
  ihave Hrest := (Entails.of_eq (call_rest m d)) $$ Hrest
  rw [wp_bind]
  iapply ((KK (F := F)).wp_run DD 𝒱₁ (EH := EH) (P := P m (X1 m) (T1 m)) κ d 0)
  isplitl []; · iexact Hctx
  isplitl [Hst]; · iexact Hst
  isplitl [Hcall]; · iexact Hcall
  iintro ⟨Hst, Hcall⟩
  ihave Hcall := (Entails.of_eq (call_post m d).symm) $$ Hcall
  ihave Hub : StableHlo.held (T d : Thread nD τ) ucRefs (W2 m d) $$ [Hcall Hrest]
  · iapply (Entails.of_eq (StableHlo.held_sub_split (T d : Thread nD τ) callRefs_sub (W2 m d)).symm)
    isplitl [Hcall] <;> iassumption
  iapply (StableHlo.wp_seq 𝒱₁ none Set.univ d ucRefs _ opsB opsB_bufs opsB_fresh (W2 m d)) $$ [Hb Hub]
  · isplitl [Hb] <;> iassumption
  iintro ⟨Hb, Hub⟩
  ihave Hub := (Entails.of_eq (held_W3 m d)) $$ Hub
  iapply ((KK (F := F)).wp_liftProg DD 𝒱₁ (T d) Set.univ none)
  unfold SparseCore.Cfg.tcSt
  icases Hst with ⟨⟨%W, -, HO⟩, Hat, Hrd, Hrs, Htoks⟩
  iapply (Pipeline.RegionSeg.wp (pcfgs (F := F)) adm (pdats (V3 m)) (none : HIx 1) pinned_inj (EP (F := F)) defs₀ 𝒱₀ (KK (F := F)).L (KK (F := F)).lev
    (dense m) d none (fun _ h => nomatch h) .ret _)
  isplitl [Hsem Hat Hrd Hrs Htoks]
  · rw [dense_post, V4_held]
    iintro ⟨Hb, Hub, %W', HO⟩
    rw [wp_ret]
    imodintro
    isplitl [HO Hat Hrd Hrs Htoks]
    · isplitl [HO]
      · iexists W'
        isplitr; · ipureintro; exact below_one d W' (by decide)
        rw [(KK (F := F)).Otc_end d le_rfl]; iexact HO
      isplitl [Hat]; · iexact Hat
      isplitl [Hrd]; · iexact Hrd
      isplitl [Hrs]; · iexact Hrs
      iexact Htoks
    isplitl [Hub]; · iexact Hub
    isplitl [Hb] <;> iassumption
  isplitl [Hb]; · iexact Hb
  isplitl [Hub HO]
  · rw [dense_pre, V3_held]
    isplitl [Hub]; · iexact Hub
    iexists W
    rw [show (KK (F := F)).Otc (N := 1) d ((0 : Fin 1).val + 1) = 0 from (KK (F := F)).Otc_end d le_rfl]
    iexact HO
  isplitl []; · iapply ((KK (F := F)).ctx_levAts κ); iexact Hctx
  isplitl [Hcg]; · iexact Hcg
  iexact Htk

/-! ## The run -/

/-- Buffers held in full are what the memory has. -/
theorem held_agree (d : Dev nD) (V : Valuation τ sig (Elt F)) (s' : Phys nD τ sig (Elt F)) (S : Finset (DevRef τ sig)) :
    iprop(StableHlo.held (T d : Thread nD τ) S V ∗ SI s') ⊢ (⌜∀ b ∈ S, s'.mem.mem (d, b) = V b⌝ : sProp (MM F)) := by
  induction S using Finset.induction_on with
  | empty => iintro -; ipureintro; exact fun _ h => absurd h (Finset.notMem_empty _)
  | insert b S hb ih =>
    have e : (StableHlo.held (T d : Thread nD τ) (insert b S) V : sProp (MM F)) = iprop(((d, b) ↦{fullShare} V b) ∗ StableHlo.held (T d : Thread nD τ) S V) := by
      unfold StableHlo.held
      rw [SparseCore.bigSep_insert' hb]
    rw [e]
    iintro ⟨⟨Hb, Hs⟩, HSI⟩
    ihave H := (persistent_entails_right (SI_pointsTo_agree (st := s') (ℓ := ((d, b) : Loc nD τ sig)) (I := Finset.univ) (q := fullShare) (f := V b))) $$ [HSI Hb]
    · isplitl [HSI] <;> iassumption
    icases H with ⟨%h1, HSI, -⟩
    ihave H := ih $$ [HSI Hs]
    · isplitl [Hs] <;> iassumption
    icases H with %h2
    ipureintro
    intro b' hb'
    rcases Finset.mem_insert.mp hb' with rfl | h
    · exact funext fun i => h1 i (Finset.mem_univ i)
    · exact h2 b' h

/-- Every core's unscoped buffers at the end, and every semaphore at zero. -/
def Ends : PUnit × MemSt nD τ sig (Elt F) → Prop := fun r => (∀ d : Dev nD, ∀ b ∈ ucRefs, r.2.mem (d, b) = W4 m d b) ∧ r.2.sem = fun _ => 0

theorem run_main [∀ e, Nonempty (Elt F e)] (hw : ∀ d a s, a < 4096 → s < 200 → (half (X1 m d a s)).toNat < 500000) :
    θ_run (Cert.KernelIdeal.defs (F := F)) (Cert.KernelIdeal.threads (F := F)) ⟨m, fun _ => 0, ρ⟩ (Ends m) :=
  SparseCore.Cfg.θ_run_sc_quiescent (K := KK (F := F)) (D := DD) (𝒱 := 𝒱₁) (EH := EH) (P := P m (X1 m) (T1 m)) (A := ∅) facts v₀
    (fun q hq => match q with | 0 => nomatch hq)
    (fun q _ => match q with | 0 => tileObl m (X1 m) (T1 m) hw)
    (fun q _ => match q with | 0 => SparseCore.Cfg.VecSplit.of_plain (vecSplit m (X1 m) (T1 m)))
    m ρ main G (FIN m) u₀ (sep_elim_left.trans (hu₀ m (X1 m) (T1 m))) (hmain m ρ) (fun d s' => ∀ b ∈ ucRefs, s'.mem.mem (d, b) = W4 m d b)
    (fun d s' => held_agree d (W4 m d) s' ucRefs) (Ends m) (fun _ h hz => ⟨h, hz⟩)

end Cert.Proof.KernelIdeal

end
-- ==== Proof.Lines.lean ====
/-
  What the host's own operations leave in the buffers: the table in rows of 128, the indices padded to 256 columns, the
  first weights padded with 64 rows of zeros, the two biases as rows; and the arguments, which no operation writes.
-/
module

public import proofs.«01_k».proof.Proof.Host
public import Idealize.ShloMosaic.Lib.StableHlo.RunRead
public import Idealize.ShloMosaic.Lib.KernelVsHost

@[expose] public section

noncomputable section

namespace Cert.Proof.KernelIdeal

open Cert.KernelIdeal Cert.KernelIdeal.Gen
open Idealize.ShloMosaic Idealize.ShloMosaic.ValueIdx
open Idealize.ShloMosaic.TcCoe

variable {F : FTy → Type} [FloatOps F] [Named F]

variable (m : (ℓ : Loc nD τ sig) → Buf (Elt F) ℓ) (d : Dev nD)

/-! ## Buffers that no operation writes -/

theorem opsA_writes : (opsA (F := F)).map HloOp.writes
    = [main_v0, main_c, main_call0_v0, main_v1].map fun w => {Proc.devRef (τ := τ) .tc w} := rfl

theorem opsB_writes : (opsB (F := F)).map HloOp.writes
    = [main_cst, main_v3, main_v4, main_v5, main_v6].map fun w => {Proc.devRef (τ := τ) .tc w} := rfl

theorem W1_kept {b : Ref sig .tc} (h : b ∉ [main_v0, main_c, main_call0_v0, main_v1]) : W1 m d b = m (d, b) :=
  StableHlo.after_unwritten _ opsA_writes h _

theorem W3_kept {b : Ref sig .tc} (h : b ∉ [main_cst, main_v3, main_v4, main_v5, main_v6]) : W3 m d b = W2 m d b :=
  StableHlo.after_unwritten _ opsB_writes h _

theorem ne_devRef {a b : Ref sig .tc} (h : a ≠ b) : (Proc.devRef .tc a : DevRef τ sig) ≠ Proc.devRef .tc b :=
  fun e => h (Proc.devRef_injective _ e)

/-- A buffer that neither the host's operations nor the two calls write. -/
theorem W4_kept {b : Ref sig .tc} (h1 : b ∉ [main_v0, main_c, main_call0_v0, main_v1]) (h2 : b ≠ main_v2)
    (h3 : b ∉ [main_cst, main_v3, main_v4, main_v5, main_v6]) (h4 : b ≠ main_v7) : W4 m d b = m (d, b) :=
  ((W4_ne m d (ne_devRef h4)).trans (W3_kept m d h3)).trans ((W2_ne m d (ne_devRef h2)).trans (W1_kept m d h1))

/-! ## What the operations before the SparseCore call leave -/

theorem W1_v1 : W1 m d main_v1 = pad S4096x256 ![0, 0] ![0, 56] ![0, 0] (m (d, Proc.devRef .tc main_arg0)) (constantI S_ 32 0#32)
    pads_S4096x200_S4096x256_000_0560 h_S_ :=
  (StableHlo.after_last_write (i := 3) [] rfl rfl List.not_mem_nil _).trans rfl

theorem W1_v0 : W1 m d main_v0 = shapeCast S500000x128 (m (d, Proc.devRef .tc main_arg1)) shapeCasts_S1000000x64_S500000x128 :=
  (StableHlo.after_last_write (i := 0) [main_c, main_call0_v0, main_v1] rfl rfl (by decide) _).trans rfl

/-- An index of the padded array that the program reads is the argument's. -/
theorem X1_apply (a : Fin 4096) (s : Fin 200) : X1 m d a s = m (d, Proc.devRef .tc main_arg0) (ix2 a s) := by
  unfold X1 lookup
  rw [dif_pos ⟨a.isLt, by omega⟩, W1_v1]
  refine pad_apply_of_inside _ _ _ _ _ _ _ _ (ix2 a s) fun x => ?_
  fin_cases x <;> simp [ix2]

/-! ## What the operations between the two calls leave -/

theorem W3_v2 : W3 m d main_v2 = o2 m d := (W3_kept m d (by decide)).trans (W2_v2 m d)

theorem W3_arg {b : Ref sig .tc} (h1 : b ∉ [main_v0, main_c, main_call0_v0, main_v1]) (h2 : b ≠ main_v2)
    (h3 : b ∉ [main_cst, main_v3, main_v4, main_v5, main_v6]) : W3 m d b = m (d, b) :=
  (W3_kept m d h3).trans ((W2_ne m d (ne_devRef h2)).trans (W1_kept m d h1))

theorem W2_arg {b : Ref sig .tc} (h1 : b ∉ [main_v0, main_c, main_call0_v0, main_v1]) (h2 : b ≠ main_v2) : W2 m d b = m (d, b) :=
  (W2_ne m d (ne_devRef h2)).trans (W1_kept m d h1)

theorem W3_v4 : W3 m d main_v4 = concatenate S128x512 0 [⟨S64x512, m (d, Proc.devRef .tc main_arg2)⟩,
    ⟨S64x512, broadcastInDim S64x512 ![] bcast_S_S64x512 (constant S_ .f32 0x00000000#32)⟩] concatenates_S64x512_S64x512_S128x512_d0 := by
  rw [← W2_arg m d (b := main_arg2) (by decide) (by decide)]
  exact (StableHlo.after_last_write (i := 2) [main_v5, main_v6] rfl rfl (by decide) _).trans rfl

theorem W3_v5 : W3 m d main_v5 = shapeCast S1x512 (m (d, Proc.devRef .tc main_arg3)) shapeCasts_S512_S1x512 := by
  rw [← W2_arg m d (b := main_arg3) (by decide) (by decide)]
  exact (StableHlo.after_last_write (i := 3) [main_v6] rfl rfl (by decide) _).trans rfl

theorem W3_v6 : W3 m d main_v6 = shapeCast S1x128 (m (d, Proc.devRef .tc main_arg5)) shapeCasts_S128_S1x128 := by
  rw [← W2_arg m d (b := main_arg5) (by decide) (by decide)]
  exact (StableHlo.after_last_write (i := 4) [] rfl rfl List.not_mem_nil _).trans rfl

end Cert.Proof.KernelIdeal

end
-- ==== Proof.Frames.lean ====
/-
  The frames. The precondition bounds the indices; so every run of the kernel ends with its arguments unchanged and every
  semaphore at zero, over the words and over the extended reals alike: the first program is the second one read over the
  words, where a named constant is the constant that stands beside its name.
-/
module

public import proofs.«01_k».proof.Defs
public import proofs.«01_k».proof.Proof.Lines
public import proofs.«01_k».proof.Proof.Gen.Kernel
public import proofs.«01_k».proof.Proof.Gen.ReferenceIdeal.Run
public import proofs.«01_k».proof.Proof.Gen.Pre_in_range
public import Idealize.ShloMosaic.Lib.ReduceAll
public import Idealize.ShloMosaic.Lib.Quiescent

@[expose] public section

set_option maxRecDepth 20000

noncomputable section

namespace Cert.Proof

open Idealize.ShloMosaic Idealize.ShloMosaic.ValueIdx Idealize.SL.Sem
open Idealize.ShloMosaic.TcCoe

/-! ## The precondition -/

/-- Two bits' conjunction is 1 when both are. -/
theorem both_of_andi {p q : BitVec 1} (h : IntOp.andi p q = 1#1) : p = 1#1 ∧ q = 1#1 := IntOp.andi_eq_one.1 h

theorem ofBool_one {p : Bool} (h : BitVec.ofBool p = 1#1) : p = true := by revert h; cases p <;> decide

/-- A word that, read with a sign, is at least 0 and below a million is below a million without one. -/
theorem word_lt {v : BitVec 32} (h : IntOp.andi (IntOp.cmpi .sge v 0#32) (IntOp.cmpi .slt v 1000000#32) = 1#1) : v.toNat < 1000000 := by
  obtain ⟨h0, h1⟩ := both_of_andi h
  have h0 := ofBool_one h0
  have h1 := ofBool_one h1
  simp only [BitVec.sle_eq_decide, BitVec.slt_eq_decide, decide_eq_true_eq, BitVec.toInt_eq_toNat_cond, BitVec.toNat_ofNat,
    Nat.reducePow, Nat.reduceMod] at h0 h1
  omega

variable {F : FTy → Type} [FloatOps F]

/-- Under the precondition every index is below the number of the table's rows. -/
theorem index_lt [Cert.Pre_in_range.Facts] {x : IVec Cert.Pre_in_range.S4096x200 32} {a1 : FVec F Cert.Pre_in_range.S1000000x64 .f32}
    {a2 : FVec F Cert.Pre_in_range.S64x512 .f32} {a3 : FVec F Cert.Pre_in_range.S512 .f32} {a4 : FVec F Cert.Pre_in_range.S512x128 .f32}
    {a5 : FVec F Cert.Pre_in_range.S128 .f32} (h : Cert.Pre_in_range.fn x a1 a2 a3 a4 a5 = fun _ => 1#1)
    (i : Cert.Pre_in_range.S4096x200.Idx) : (x i).toNat < 1000000 :=
  haveI : Subsingleton Cert.Pre_in_range.S_.Idx := ⟨fun a b => funext fun k => k.elim0⟩
  word_lt (Host.reduce_andi_all _ _ _ _ ix0 (congrFun h ix0) i)

theorem half_lt {w : BitVec 32} (h : w.toNat < 1000000) : (KernelIdeal.half w).toNat < 500000 := by
  unfold KernelIdeal.half
  rw [BitVec.sshiftRight_eq_of_msb_false (by rw [BitVec.msb_eq_decide]; simp; omega), BitVec.toNat_ushiftRight, Nat.shiftRight_eq_div_pow]
  omega

/-! ## The kernel, over any floats -/

section Run
variable [Named F] [∀ e, Nonempty (Elt F e)]

open Cert.KernelIdeal Cert.KernelIdeal.Gen in
/-- A run of the kernel from indices in range: where the result ends, the arguments unchanged, the semaphores at zero. -/
theorem kernel_run (m : (ℓ : Loc nD τ sig) → Buf (Elt F) ℓ) (ρ : Dev nD → PrngReg)
    (hx : ∀ (d : Dev nD) (i : S4096x200.Idx), ((m (d, Proc.devRef .tc main_arg0) : IVec S4096x200 32) i).toNat < 1000000) :
    θ_run (defs (F := F)) (threads (F := F)) ⟨m, fun _ => 0, ρ⟩ fun r => (∀ c : Dev nD,
      r.2.mem ((c.tc : Thread nD τ).loc main_v7) = KernelIdeal.layered (KernelIdeal.V3 m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 := by
  refine (θ_run defs _ _).mono (fun r h => ⟨fun c => ⟨(h.1 c main_v7 (KernelIdeal.mem_ucRefs rfl)).trans (KernelIdeal.W4_v7 m c), ?_⟩, h.2⟩)
    (KernelIdeal.run_main m ρ fun d a s ha hs => ?_)
  · have kept : ∀ b : Ref sig .tc, b.isScoped = false → b ∉ [main_v0, main_c, main_call0_v0, main_v1] → b ≠ main_v2 →
        b ∉ [main_cst, main_v3, main_v4, main_v5, main_v6] → b ≠ main_v7 → r.2.mem (c, Proc.devRef .tc b) = m (c, Proc.devRef .tc b) :=
      fun b hs h1 h2 h3 h4 => (h.1 c _ (KernelIdeal.mem_ucRefs hs)).trans (KernelIdeal.W4_kept m c h1 h2 h3 h4)
    exact ⟨kept main_arg0 rfl (by decide) (by decide) (by decide) (by decide), kept main_arg1 rfl (by decide) (by decide) (by decide) (by decide),
      kept main_arg2 rfl (by decide) (by decide) (by decide) (by decide), kept main_arg3 rfl (by decide) (by decide) (by decide) (by decide),
      kept main_arg4 rfl (by decide) (by decide) (by decide) (by decide), kept main_arg5 rfl (by decide) (by decide) (by decide) (by decide)⟩
  · rw [KernelIdeal.X1_apply m d ⟨a, ha⟩ ⟨s, hs⟩]
    exact half_lt (hx d _)

end Run

/-! ## The three frames -/

attribute [local instance] Cert.Kernel.Gen.facts Cert.KernelIdeal.Gen.facts Cert.ReferenceIdeal.Gen.facts Cert.Pre_in_range.Gen.facts

theorem frame_ideal : Cert.quiescent_KernelIdeal := fun m ρ h =>
  (θ_run Cert.KernelIdeal.defs _ _).mono (fun _ hr => ⟨fun c => (hr.1 c).2, hr.2⟩) (kernel_run m ρ fun d i => index_lt (h d) i)

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the words a named constant is the constant beside its name. -/
local instance wordNamed : Named Bits := ⟨fun _ _ _ bits => FloatOps.ofBits _ bits⟩

theorem defs₀_eq : Cert.Kernel.defs₀ (F := Bits) = Cert.KernelIdeal.defs₀ (F := Bits) := by
  funext p l a
  match p, l, a with
  | .tc, 0, _ => rfl
  | .tc, 1, _ => rfl
  | .scScalar _, 0, _ => rfl
  | .scScalar _, 1, _ => rfl
  | .scVector _ _, 0, _ => rfl
  | .scVector _ _, 1, _ => rfl

theorem defs_eq : Cert.Kernel.defs (F := Bits) = Cert.KernelIdeal.defs (F := Bits) :=
  congrArg (fun D : Defs Cert.KernelIdeal.nD Cert.KernelIdeal.τ Cert.KernelIdeal.sig (Elt Bits) Cert.KernelIdeal.Λ₀ =>
    (Cert.KernelIdeal.sc (F := Bits)).defs (Pipeline.defs Cert.KernelIdeal.pcfgs D)) defs₀_eq

theorem threads_eq : Cert.Kernel.threads (F := Bits) = Cert.KernelIdeal.threads (F := Bits) := rfl

theorem frame_words : Cert.quiescent_Kernel := fun m ρ h => by
  rw [defs_eq, threads_eq]
  exact (θ_run Cert.KernelIdeal.defs _ _).mono (fun _ hr => ⟨fun c => (hr.1 c).2, hr.2⟩) (kernel_run (F := Bits) m ρ fun d i => index_lt (h d) i)

/-! ## The named constant -/

theorem named_inv_seq : Cert.preserves_Kernel_KernelIdeal :=
  IdealRules.named_const.statement Cert.KernelIdeal.κ "inv_seq" .f32 0x3BA3D70A#32 ((200⁻¹ : ℝ) : EReal) rfl

end Cert.Proof

end
-- ==== Proof.Pool.lean ====
/-
  The pooled rows over the extended reals: the sum of the table's rows that a row of indices names. The kernel's table
  has rows of 128, two of the argument's side by side; index `n` names half `n % 2` of its row `n / 2`.
-/
module

public import proofs.«01_k».proof.Proof.Lines
public import Idealize.ShloMosaic.Lib.IdealHost

@[expose] public section

noncomputable section

namespace Cert.Proof.KernelIdeal

open Cert.KernelIdeal Cert.KernelIdeal.Gen
open Idealize.ShloMosaic Idealize.ShloMosaic.ValueIdx
open Idealize.ShloMosaic.TcCoe
open scoped BigOperators

/-- Lane `b` of the sum of the rows of `Tab` that row `a` of the indices `x` names. -/
def rowSum (x : IVec S4096x200 32) (Tab : FVec Ideal S1000000x64 .f32) (a : Fin 4096) (b : Fin 64) : EReal :=
  ∑ s : Fin 200, Tab (ix2 ⟨(x (ix2 a s)).toNat % 1000000, Nat.mod_lt _ (by decide)⟩ b)

/-- A sum from the left is the sum. -/
theorem psum_eq (w : ℕ → BitVec 32) (G : ℕ → ℕ → Ideal .f32) (l : ℕ) : ∀ n, psum w G n l = ∑ s ∈ Finset.range n, (item w G s l : EReal)
  | 0 => Ideal.ofBits_zero_f32
  | n + 1 => by
    rw [Finset.sum_range_succ, ← psum_eq w G l n]
    rfl

theorem half_toNat {w : BitVec 32} (h : w.toNat < 1000000) : (half w).toNat = w.toNat / 2 := by
  unfold half
  rw [BitVec.sshiftRight_eq_of_msb_false (by rw [BitVec.msb_eq_decide]; simp; omega), BitVec.toNat_ushiftRight, Nat.shiftRight_eq_div_pow]

theorem odd_iff (w : BitVec 32) : w &&& 1#32 = 1#32 ↔ w.toNat % 2 = 1 := by
  rw [← BitVec.toNat_inj, BitVec.toNat_and]
  exact Eq.congr (Nat.and_one_is_mod _) rfl

variable (m : (ℓ : Loc nD τ sig) → Buf (Elt Ideal) ℓ) (d : Dev nD)

/-- The two arguments that the pooling reads. -/
abbrev xArg : IVec S4096x200 32 := m (d, Proc.devRef .tc main_arg0)
abbrev tArg : FVec Ideal S1000000x64 .f32 := m (d, Proc.devRef .tc main_arg1)

/-- Lane `l` of row `n` of the kernel's table is the argument's element of the same place in row-major order. -/
theorem T1_apply {n l : ℕ} (hn : n < 500000) (hl : l < 128) (i : Fin 1000000) (b : Fin 64) (h : i.val * 64 + b.val = n * 128 + l) :
    T1 m d n l = tArg m d (ix2 i b) := by
  unfold T1 lookup
  rw [dif_pos ⟨hn, hl⟩, W1_v0]
  refine shapeCast_apply _ _ _ (ix2 i b) ?_
  rw [Shape.rowMajor_val_two, Shape.rowMajor_val_two]
  exact h

theorem item_eq (a : Fin 4096) (s : Fin 200) (b : Fin 64) (h : (xArg m d (ix2 a s)).toNat < 1000000) :
    item (X1 m d a) (rowsOf (T1 m d) (X1 m d a)) s b = tArg m d (ix2 ⟨(xArg m d (ix2 a s)).toNat % 1000000, Nat.mod_lt _ (by decide)⟩ b) := by
  have hm := Nat.mod_eq_of_lt h
  have hb := b.isLt
  unfold item rowsOf
  rw [show X1 m d a s = xArg m d (ix2 a s) from X1_apply m d a s, half_toNat h]
  split
  next ho =>
    have ho := (odd_iff _).1 ho
    exact T1_apply m d (by omega) (by omega) _ _ (by show _ % 1000000 * 64 + b.val = _; rw [hm]; omega)
  next ho =>
    have ho := mt (odd_iff _).2 ho
    exact T1_apply m d (by omega) (by omega) _ _ (by show _ % 1000000 * 64 + b.val = _; rw [hm]; omega)

/-- The pooled row, its first 64 lanes. -/
theorem pooled_low (hx : ∀ i, (xArg m d i).toNat < 1000000) (a : Fin 4096) (b : Fin 64) :
    pooled (X1 m d) (T1 m d) a b = rowSum (xArg m d) (tArg m d) a b := by
  unfold pooled rowSum
  rw [if_pos b.isLt, psum_eq, ← Fin.sum_univ_eq_sum_range (fun s => (item (X1 m d a) (rowsOf (T1 m d) (X1 m d a)) s b : EReal)) 200]
  exact Finset.sum_congr rfl fun s _ => item_eq m d a s b (hx _)

/-! ## The first weights, padded -/

theorem weights_low (j : Fin 64) (k : Fin 512) :
    (W3 m d main_v4 : FVec Ideal S128x512 .f32) (ix2 ⟨j.val, by omega⟩ k) = (m (d, Proc.devRef .tc main_arg2) : FVec Ideal S64x512 .f32) (ix2 j k) := by
  rw [W3_v4]
  refine concatenate_pair_apply_left (t := S128x512) (s₁ := S64x512) (s₂ := S64x512) _ _ _ _ _ rfl (ix2 j k) fun b => ?_
  fin_cases b <;> rfl

theorem weights_high (j : Fin 64) (k : Fin 512) :
    (W3 m d main_v4 : FVec Ideal S128x512 .f32) (ix2 ⟨64 + j.val, by omega⟩ k) = (0 : EReal) := by
  rw [W3_v4]
  refine (concatenate_pair_apply_right (t := S128x512) (s₁ := S64x512) (s₂ := S64x512) _ _ _ _ _ rfl rfl (ix2 j k) (fun b hb => ?_) ?_).trans ?_
  · fin_cases b
    · exact absurd rfl hb
    · rfl
  · show j.val + 64 = 64 + j.val
    omega
  · rw [broadcastInDim_scalar_apply]
    exact Ideal.ofBits_zero_f32

end Cert.Proof.KernelIdeal

end
-- ==== Proof.Dense.lean ====
/-
  The dense layers over the extended reals, element by element: what one grid point computes, and from the points' blocks
  the whole result.
-/
module

public import proofs.«01_k».proof.Proof.Mlp
public import Idealize.ShloMosaic.Lib.Pipeline.ValueKit
public import Idealize.ShloMosaic.Lib.ValueIdx
public import Idealize.ShloMosaic.Lib.ValueLayout
public import Idealize.ShloMosaic.Lib.MatmulPlain

@[expose] public section

noncomputable section

namespace Cert.Proof.KernelIdeal

open Cert.KernelIdeal Cert.KernelIdeal.Gen
open Idealize.ShloMosaic hiding ix1 ix2 ix3 eq_ix2 addf_apply mulf_apply maximumf_apply constant_apply
open Idealize.ShloMosaic.ValueIdx
open Idealize.ShloMosaic.TcCoe
open scoped BigOperators

/-- One over the number of items of a row. -/
abbrev inv : EReal := ((200⁻¹ : ℝ) : EReal)

/-- The two layers at hidden weights `A`, `b` and output weights `C`, `e`, applied to a row `p` of `n` numbers. -/
def layers {n : ℕ} (p : Fin n → EReal) (A : Fin n → Fin 512 → EReal) (b : Fin 512 → EReal) (C : Fin 512 → EReal) (e : EReal) : EReal :=
  (∑ k : Fin 512, max ((∑ j : Fin n, p j * inv * A j k) + b k) 0 * C k) + e

/-- What a grid point computes, at an element. -/
theorem pay_apply (v0 : FVec Ideal S512x128 .f32) (v4 : FVec Ideal S128x512 .f32) (v7 : FVec Ideal S1x512 .f32) (v13 : FVec Ideal S512x128 .f32)
    (v15 : FVec Ideal S1x128 .f32) (r : Fin 512) (q : Fin 128) :
    k1_pay1 (F := Ideal) v0 v4 v7 v13 v15 (ix2 r q)
      = layers (fun j : Fin 128 => v0 (ix2 r j)) (fun j k => v4 (ix2 j k)) (fun k => v7 (ix2 0 k)) (fun k => v13 (ix2 k q)) (v15 (ix2 0 q)) := by
  unfold k1_pay1 layers
  simp only [shapeCast_self]
  rw [addf_apply, broadcastTo_1b_ab_apply]
  refine congrArg (· + _) ?_
  refine (Ideal.matmul_plain_apply (M := 512) (K := 512) (N := 128) none _ _ _ r q).trans ?_
  rw [constant_apply, Ideal.ofBits_zero_f32, zero_add]
  refine Finset.sum_congr rfl fun k _ => congrArg (· * _) ?_
  rw [maximumf_apply, addf_apply, broadcastTo_1b_ab_apply]
  refine congrArg₂ max (congrArg (· + _) ?_) Ideal.ofBits_zero_f32
  refine (Ideal.matmul_plain_apply (M := 512) (K := 128) (N := 512) none _ _ _ r k).trans ?_
  rw [constant_apply, Ideal.ofBits_zero_f32, zero_add]
  exact Finset.sum_congr rfl fun j _ => rfl

theorem at_win0 : ∀ t : Fin grid1.N, win1_0.index t = ![(grid1.coords t 0).val, 0] := by decide +kernel
theorem at_win1 : ∀ t : Fin grid1.N, win1_1.index t = ![0, 0] := by decide +kernel
theorem at_win2 : ∀ t : Fin grid1.N, win1_2.index t = ![0, 0] := by decide +kernel
theorem at_win3 : ∀ t : Fin grid1.N, win1_3.index t = ![0, 0] := by decide +kernel
theorem at_win4 : ∀ t : Fin grid1.N, win1_4.index t = ![0, 0] := by decide +kernel
theorem at_win5 : ∀ t : Fin grid1.N, win1_5.index t = ![(grid1.coords t 0).val, 0] := by decide +kernel

variable (Vv : (c : Dev nD) → (b : Ref sig .tc) → Buf (Elt Ideal) ((c : Thread nD τ).loc b))

/-- The result, element by element, of the buffers the call finds. -/
def outOf (c : Dev nD) : FVec Ideal S4096x128 .f32 := fun i =>
  layers (fun j : Fin 128 => (Vv c main_v2 : FVec Ideal S4096x128 .f32) (ix2 ⟨(i 0).val, idx2_lt0 i⟩ j)) (fun j k => (Vv c main_v4 : FVec Ideal S128x512 .f32) (ix2 j k))
    (fun k => (Vv c main_v5 : FVec Ideal S1x512 .f32) (ix2 0 k)) (fun k => (Vv c main_arg4 : FVec Ideal S512x128 .f32) (ix2 k ⟨(i 1).val, idx2_lt1 i⟩))
    ((Vv c main_v6 : FVec Ideal S1x128 .f32) (ix2 0 ⟨(i 1).val, idx2_lt1 i⟩))

theorem layered_eq (c : Dev nD) : layered Vv c = outOf Vv c := by
  unfold layered
  refine (dat Vv c).arrAt_eq_of_covers 5 _ (by decide +kernel) fun t hf y => ?_
  refine Eq.trans (b := layer Vv c t y) rfl ?_
  obtain ⟨r, q, rfl⟩ : ∃ (r : Fin 512) (q : Fin 128), y = ix2 r q := ⟨⟨(y 0).val, idx2_lt0 y⟩, ⟨(y 1).val, idx2_lt1 y⟩, eq_ix2 y⟩
  refine (pay_apply _ _ _ _ _ r q).trans ?_
  unfold outOf
  congr 1
  · funext j
    refine congrArg (Vv c main_v2 : FVec Ideal S4096x128 .f32) ?_
    blk_ext [at_win0 t, at_win5 t]
  · funext j k
    refine congrArg (Vv c main_v4 : FVec Ideal S128x512 .f32) ?_
    blk_ext [at_win1 t]
  · funext k
    refine congrArg (Vv c main_v5 : FVec Ideal S1x512 .f32) ?_
    blk_ext [at_win2 t]
  · funext k
    refine congrArg (Vv c main_arg4 : FVec Ideal S512x128 .f32) ?_
    blk_ext [at_win3 t, at_win5 t]
  · refine congrArg (Vv c main_v6 : FVec Ideal S1x128 .f32) ?_
    blk_ext [at_win4 t, at_win5 t]

end Cert.Proof.KernelIdeal

end
-- ==== Proof.Reference.lean ====
/-
  The reference over the extended reals, element by element. Indices in range are not moved by the wrapping of negative
  ones, no row is masked, and the sum over the items is the sum of the rows they name.
-/
module

public import proofs.«01_k».proof.Proof.Pool
public import proofs.«01_k».proof.Proof.Dense
public import proofs.«01_k».proof.Proof.Gen.ReferenceIdeal.Run
public import Idealize.ShloMosaic.Lib.ReduceAll
public import Idealize.ShloMosaic.Lib.IdealHost
public import Idealize.ShloMosaic.Lib.StackMember

@[expose] public section

noncomputable section

namespace Cert.Proof.Reference

open Cert.ReferenceIdeal Cert.ReferenceIdeal.Facts₀
open Idealize.ShloMosaic hiding ix1 ix2 ix3 eq_ix2 eq_ix3 addf_apply mulf_apply maximumf_apply constant_apply
open Idealize.ShloMosaic.ValueIdx
open Cert.Proof.KernelIdeal (layers inv rowSum)
open scoped BigOperators

attribute [local instance] Cert.ReferenceIdeal.Gen.facts

variable (x : IVec S4096x200 32) (Tab : FVec Ideal S1000000x64 .f32)

/-- The row numbers: a negative index counts from the table's end. -/
def wrapped : IVec S4096x200x1 32 :=
  broadcastInDim S4096x200x1 ![0, 1] bcast_S4096x200_S4096x200x1_0_1 (select (cmpi .slt x (broadcastInDim S4096x200 ![] bcast_S_S4096x200 (constantI S_ 32 0#32)))
    (addi x (broadcastInDim S4096x200 ![] bcast_S_S4096x200 (constantI S_ 32 1000000#32))) x)

/-- Which row numbers are rows of the table. -/
def inTable : IVec S4096x200x1 1 :=
  andi (cmpi .sge (wrapped x) (broadcastInDim S4096x200x1 ![] bcast_S_S4096x200x1 (constantI S_ 32 0#32)))
    (cmpi .sle (wrapped x) (broadcastInDim S4096x200x1 ![0, 1, 2] bcast_S1x1x1_S4096x200x1_0_1_2 (broadcastInDim S1x1x1 ![2] bcast_S1_S1x1x1_2 (constantI S1 32 999999#32))))

/-- The rows taken. -/
def taken : FVec Ideal S4096x200x64 .f32 :=
  select (broadcastInDim S4096x200x64 ![0, 1] bcast_S4096x200_S4096x200x64_0_1
      (Host.reduce IntOp.andi (inTable x) (constantI S_ 1 1#1) reducesTo_S4096x200x1_S4096x200_d2 h_S_))
    (Host.gather gather_S1000000x64_S4096x200x1_S4096x200x64_2_0_n_n_0_2_164 Tab (wrapped x))
    (broadcastInDim S4096x200x64 ![] bcast_S_S4096x200x64 (constant S_ .f32 0x7FC00000#32))

/-- The means of the rows taken. -/
def means : FVec Ideal S4096x64 .f32 :=
  Host.divf (Host.reduceAdd (taken x Tab) (constant S_ .f32 0x00000000#32) reducesTo_S4096x200x64_S4096x64_d1 h_S_)
    (broadcastInDim S4096x64 ![] bcast_S_S4096x64 (constant S_ .f32 0x43480000#32))

variable (A : FVec Ideal S64x512 .f32) (b : FVec Ideal S512 .f32) (C : FVec Ideal S512x128 .f32) (e : FVec Ideal S128 .f32)

/-- The reference's result. -/
def result : FVec Ideal S4096x128 .f32 :=
  addf (Host.dotGeneral dot_S4096x512_S512x128_S4096x128_1_0_0_1_n_n none
      (maximumf (addf (Host.dotGeneral dot_S4096x64_S64x512_S4096x512_1_0_0_1_n_n none (means x Tab) A)
          (broadcastInDim S4096x512 ![0, 1] bcast_S1x512_S4096x512_0_1 (broadcastInDim S1x512 ![1] bcast_S512_S1x512_1 b)))
        (broadcastInDim S4096x512 ![] bcast_S_S4096x512 (constant S_ .f32 0x00000000#32))) C)
    (broadcastInDim S4096x128 ![0, 1] bcast_S1x128_S4096x128_0_1 (broadcastInDim S1x128 ![1] bcast_S128_S1x128_1 e))

/-! ## The rows taken -/

theorem not_neg {v : BitVec 32} (h : v.toNat < 1000000) : IntOp.cmpi .slt v 0#32 = 0#1 := by
  have h' : ¬ v.slt 0#32 = true := by
    rw [BitVec.slt_eq_decide, decide_eq_true_eq, BitVec.toInt_eq_toNat_cond]
    simp only [BitVec.toInt_zero]
    split <;> omega
  exact congrArg BitVec.ofBool (Bool.not_eq_true _ ▸ h')

theorem in_table {v : BitVec 32} (h : v.toNat < 1000000) :
    IntOp.andi (IntOp.cmpi .sge v 0#32) (IntOp.cmpi .sle v 999999#32) = 1#1 := by
  have h1 : (0#32 : BitVec 32).sle v = true := by
    rw [BitVec.sle_eq_decide, decide_eq_true_eq, BitVec.toInt_eq_toNat_cond (x := v)]
    simp only [BitVec.toInt_zero]
    split <;> omega
  have h2 : v.sle 999999#32 = true := by
    rw [BitVec.sle_eq_decide, decide_eq_true_eq, BitVec.toInt_eq_toNat_cond, BitVec.toInt_eq_toNat_cond]
    simp only [BitVec.toNat_ofNat]
    split <;> omega
  show IntOp.andi (BitVec.ofBool ((0#32 : BitVec 32).sle v)) (BitVec.ofBool (v.sle 999999#32)) = 1#1
  rw [h1, h2]
  rfl

variable {x} (hx : ∀ i, (x i).toNat < 1000000)
include hx

theorem wrapped_apply (a : Fin 4096) (s : Fin 200) (z : Fin 1) : wrapped x (ix3 a s z) = x (ix2 a s) := by
  unfold wrapped
  refine (broadcastInDim_apply _ _ _ _ (ix2 a s) fun ax => ?_).trans ?_
  · fin_cases ax <;> rfl
  · rw [select_apply]
    show Scalar.select (IntOp.cmpi .slt (x (ix2 a s)) 0#32) _ _ = _
    rw [not_neg (hx _), select_zero]

theorem inTable_apply (j : S4096x200x1.Idx) : inTable x j = 1#1 := by
  obtain ⟨i, hi⟩ : ∃ i, wrapped x j = x i := ⟨_, (congrArg (wrapped x) (eq_ix3 j)).trans (wrapped_apply hx _ _ _)⟩
  show IntOp.andi (IntOp.cmpi .sge (wrapped x j) 0#32) (IntOp.cmpi .sle (wrapped x j) 999999#32) = 1#1
  rw [hi]
  exact in_table (hx i)

omit hx in
/-- A row of the gather: the row of the table that its number names. -/
theorem gather_apply (y : IVec S4096x200x1 32) (a : Fin 4096) (s : Fin 200) (l : Fin 64) {n : ℕ} (hn : n < 1000000) (hy : (y (ix3 a s 0)).toInt = n) :
    Host.gather gather_S1000000x64_S4096x200x1_S4096x200x64_2_0_n_n_0_2_164 Tab y (ix3 a s l) = Tab (ix2 ⟨n, hn⟩ l) := by
  unfold Host.gather
  congr 1
  funext ax
  refine Fin.ext ?_
  set D := gather_S1000000x64_S4096x200x1_S4096x200x64_2_0_n_n_0_2_164
  show D.start (ix3 a s l) y ax + D.batchCoord (ix3 a s l) ax + D.offCoord (ix3 a s l) ax = _
  rw [D.batchCoord_eq_zero _ _ List.not_mem_nil]
  fin_cases ax
  · have hi : D.siIdx (ix3 a s l) ⟨0, by decide⟩ = ix3 a s 0 := by funext ax; fin_cases ax <;> rfl
    have hs : D.start (ix3 a s l) y 0 = min (y (D.siIdx (ix3 a s l) ⟨0, by decide⟩)).toInt.toNat 999999 := dif_pos (List.mem_singleton.mpr rfl)
    have ho : D.offCoord (ix3 a s l) 0 = 0 := D.offCoord_eq_zero _ _ (by decide)
    show D.start (ix3 a s l) y 0 + 0 + D.offCoord (ix3 a s l) 0 = n
    rw [hs, ho, hi, hy]
    omega
  · have hs : D.start (ix3 a s l) y 1 = 0 := dif_neg (by decide)
    have ho : D.offCoord (ix3 a s l) 1 = l.val := dif_pos (show (1 : Fin 2) ∈ D.sKept by decide)
    show D.start (ix3 a s l) y 1 + 0 + D.offCoord (ix3 a s l) 1 = l.val
    rw [hs, ho]
    omega

theorem taken_apply (a : Fin 4096) (s : Fin 200) (l : Fin 64) :
    taken x Tab (ix3 a s l) = Tab (ix2 ⟨(x (ix2 a s)).toNat % 1000000, Nat.mod_lt _ (by decide)⟩ l) := by
  have h := hx (ix2 a s)
  unfold taken
  rw [select_apply]
  rw [show broadcastInDim S4096x200x64 ![0, 1] bcast_S4096x200_S4096x200x64_0_1
      (Host.reduce IntOp.andi (inTable x) (constantI S_ 1 1#1) reducesTo_S4096x200x1_S4096x200_d2 h_S_) (ix3 a s l) = 1#1 from
    Host.reduce_andi_one _ _ _ _ _ rfl fun i => inTable_apply hx i, select_one]
  refine gather_apply Tab _ a s l _ ?_
  rw [wrapped_apply hx, BitVec.toInt_eq_toNat_cond, if_pos (by omega), Nat.mod_eq_of_lt h]

/-! ## The means and the layers -/

omit hx in
theorem word_200 : Ideal.ofBits .f32 0x43480000#32 = ((200 : ℝ) : EReal) := by
  simp [Ideal.ofBits, Ideal.ieee, -EReal.coe_mul]; norm_num

omit hx in
theorem div_200 (y : EReal) : Ideal.div y ((200 : ℝ) : EReal) = y * inv := by
  unfold Ideal.div
  rw [if_neg (by norm_num), ← EReal.coe_inv]

theorem means_apply (a : Fin 4096) (l : Fin 64) : means x Tab (ix2 a l) = rowSum x Tab a l * inv := by
  unfold means
  rw [hostDivf_apply, broadcastInDim_scalar_apply, constant_apply, word_200, div_200]
  refine congrArg (· * inv) ?_
  rw [hostReduceAdd_apply, Ideal.hostReduceAdd_single _ (by decide), constant_apply, Ideal.ofBits_zero_f32, zero_add]
  refine Finset.sum_congr rfl fun s _ => Eq.trans (congrArg (taken x Tab) ?_) (taken_apply Tab hx a s l)
  funext ax
  fin_cases ax <;> rfl

/-- An element of the reference's result. -/
theorem result_apply (a : Fin 4096) (q : Fin 128) : result x Tab A b C e (ix2 a q)
    = layers (fun j => rowSum x Tab a j) (fun j k => A (ix2 j k)) (fun k => b (ix1 k)) (fun k => C (ix2 k q)) (e (ix1 q)) := by
  unfold result layers
  rw [addf_apply]
  refine congrArg₂ (· + ·) ?_ ?_
  · refine (StackMember.dotGeneral_plain_apply (m := 4096) (k := 512) (n := 128) none _ _ a q).trans ?_
    refine Finset.sum_congr rfl fun k _ => congrArg (· * _) ?_
    rw [maximumf_apply, addf_apply]
    refine congrArg₂ max (congrArg₂ (· + ·) ?_ ?_) ?_
    · refine (StackMember.dotGeneral_plain_apply (m := 4096) (k := 64) (n := 512) none _ _ a k).trans ?_
      exact Finset.sum_congr rfl fun j _ => congrArg (· * _) (means_apply Tab hx a j)
    · refine (broadcastInDim_apply _ _ _ _ (ix2 0 k) fun ax => by fin_cases ax <;> rfl).trans ?_
      exact broadcastInDim_apply _ _ _ _ (ix1 k) fun ax => by fin_cases ax; rfl
    · rw [broadcastInDim_scalar_apply]
      exact Ideal.ofBits_zero_f32
  · refine (broadcastInDim_apply _ _ _ _ (ix2 0 q) fun ax => by fin_cases ax <;> rfl).trans ?_
    exact broadcastInDim_apply _ _ _ _ (ix1 q) fun ax => by fin_cases ax; rfl

end Cert.Proof.Reference

end
-- ==== Proof.Value.lean ====
/-
  The two programs' results are equal over the extended reals: both are the dense layers of the sums of the named rows.
  The kernel's dense layers have 64 more lanes of weights, all 0, and what they multiply adds nothing.
-/
module

public import proofs.«01_k».proof.Proof.Frames
public import proofs.«01_k».proof.Proof.Reference

@[expose] public section

noncomputable section

namespace Cert.Proof

open Cert.KernelIdeal Cert.KernelIdeal.Gen
open Idealize.ShloMosaic hiding ix1 ix2 ix3 eq_ix2 eq_ix3 addf_apply mulf_apply maximumf_apply constant_apply
open Idealize.ShloMosaic.ValueIdx Idealize.SL.Sem
open Idealize.ShloMosaic.TcCoe
open Cert.Proof.KernelIdeal
open scoped BigOperators

/-- Layers of 128 lanes whose last 64 weights are 0 are the layers of the first 64 lanes. -/
theorem layers_half (p : Fin 128 → EReal) (A : Fin 128 → Fin 512 → EReal) (p' : Fin 64 → EReal) (A' : Fin 64 → Fin 512 → EReal)
    (b C : Fin 512 → EReal) (e : EReal) (hp : ∀ j : Fin 64, p ⟨j.val, by omega⟩ = p' j) (hA : ∀ (j : Fin 64) k, A ⟨j.val, by omega⟩ k = A' j k)
    (h0 : ∀ (j : Fin 64) k, A ⟨64 + j.val, by omega⟩ k = 0) : layers p A b C e = layers p' A' b C e := by
  unfold layers
  refine congrArg (· + e) (Finset.sum_congr rfl fun k _ => ?_)
  have h : ∑ j, p j * inv * A j k = ∑ j, p' j * inv * A' j k := by
    rw [show ∑ j, p j * inv * A j k = _ from Fin.sum_univ_add (a := 64) (b := 64) fun j => p j * inv * A j k,
      Finset.sum_eq_zero (s := Finset.univ) (f := fun j : Fin 64 => p (Fin.natAdd 64 j) * inv * A (Fin.natAdd 64 j) k)
        fun j _ => (congrArg (_ * ·) (h0 j k)).trans (mul_zero _), add_zero]
    exact Finset.sum_congr rfl fun j _ => congrArg₂ (fun u v => u * inv * v) (hp j) (hA j k)
  rw [h]

variable (m : (ℓ : Loc nD τ sig) → Buf (Elt Ideal) ℓ) (d : Dev nD)

/-- The kernel's result is the reference's, of the same arguments. -/
theorem kernel_result (hx : ∀ i, (xArg m d i).toNat < 1000000) :
    layered (V3 m) d = Reference.result (m (d, Proc.devRef .tc main_arg0)) (m (d, Proc.devRef .tc main_arg1)) (m (d, Proc.devRef .tc main_arg2))
      (m (d, Proc.devRef .tc main_arg3)) (m (d, Proc.devRef .tc main_arg4)) (m (d, Proc.devRef .tc main_arg5)) := by
  rw [layered_eq]
  funext i
  obtain ⟨a, q, rfl⟩ : ∃ (a : Fin 4096) (q : Fin 128), i = ix2 a q := ⟨⟨(i 0).val, idx2_lt0 i⟩, ⟨(i 1).val, idx2_lt1 i⟩, eq_ix2 i⟩
  refine Eq.trans ?_ (Reference.result_apply _ _ _ _ _ hx a q).symm
  have h5 : ∀ k : Fin 512, (W3 m d main_v5 : FVec Ideal S1x512 .f32) (ix2 0 k) = (m (d, Proc.devRef .tc main_arg3) : FVec Ideal S512 .f32) (ix1 k) :=
    fun k => (congrFun (W3_v5 m d) _).trans (shapeCast_a_1a_apply _ _ 0 k)
  have h6 : (W3 m d main_v6 : FVec Ideal S1x128 .f32) (ix2 0 q) = (m (d, Proc.devRef .tc main_arg5) : FVec Ideal S128 .f32) (ix1 q) :=
    (congrFun (W3_v6 m d) _).trans (shapeCast_a_1a_apply _ _ 0 q)
  have h4 : ∀ k : Fin 512, (W3 m d main_arg4 : FVec Ideal S512x128 .f32) (ix2 k q) = (m (d, Proc.devRef .tc main_arg4) : FVec Ideal S512x128 .f32) (ix2 k q) :=
    fun k => congrFun (W3_arg m d (by decide) (by decide) (by decide)) _
  refine (layers_half _ _ (fun j => rowSum (xArg m d) (tArg m d) a j) _ _ _ _ (fun j => ?_) (weights_low m d) (weights_high m d)).trans ?_
  · exact (congrFun (W3_v2 m d) _).trans (pooled_low m d hx a j)
  · show layers _ _ (fun k => (W3 m d main_v5 : FVec Ideal S1x512 .f32) (ix2 0 k)) (fun k => (W3 m d main_arg4 : FVec Ideal S512x128 .f32) (ix2 k q))
      ((W3 m d main_v6 : FVec Ideal S1x128 .f32) (ix2 0 q)) = _
    rw [funext h5, funext h4, h6]

attribute [local instance] Cert.KernelIdeal.Gen.facts Cert.ReferenceIdeal.Gen.facts Cert.Pre_in_range.Gen.facts

theorem algebraic : Cert.algebraic_KernelIdeal_ReferenceIdeal := fun m g m' g' hpre hagree =>
  ⟨fun c => layered (V3 m) c, (θ_run Cert.KernelIdeal.defs _ _).mono (fun _ hr => hr.1) (kernel_run m g fun d i => index_lt (hpre d) i),
    (θ_run Cert.ReferenceIdeal.defs _ _).mono (fun _ h c => ⟨(h c).1.trans (by
      obtain ⟨h0, h1, h2, h3, h4, h5⟩ := hagree c
      rw [h0, h1, h2, h3, h4, h5]
      exact (kernel_result m c fun i => index_lt (hpre c) i).symm), (h c).2⟩) (Cert.ReferenceIdeal.Value.run (F := Ideal) m' g')⟩

end Cert.Proof

end
-- ==== Proof.lean ====
/-
  The certificate: the two programs of the kernel and the reference end with their arguments unchanged (Proof.Frames),
  the kernel over the words is the kernel over the extended reals but for one named constant (Proof.Frames), and the
  kernel's result over the extended reals is the reference's (Proof.Value).
-/
module

public import proofs.«01_k».proof.Defs
public import proofs.«01_k».proof.Proof.Frames
public import proofs.«01_k».proof.Proof.Value

@[expose] public section

noncomputable section

namespace Cert.Proof

theorem claim : Cert.Claim := ⟨Cert.Kernel.Gen.facts, Cert.KernelIdeal.Gen.facts, Cert.ReferenceIdeal.Gen.facts, Cert.Pre_in_range.Gen.facts,
  frame_words, frame_ideal, frame_reference, named_inv_seq, algebraic⟩

end Cert.Proof

end
